-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x4096 : Shape := ⟨2, ![32768, 4096]⟩
abbrev S64x4096 : Shape := ⟨2, ![64, 4096]⟩
abbrev S32768x64 : Shape := ⟨2, ![32768, 64]⟩
abbrev S2x1024x4096 : Shape := ⟨3, ![2, 1024, 4096]⟩
abbrev S2 : Shape := ⟨1, ![2]⟩
abbrev S_ : Shape := ⟨0, ![]⟩
abbrev S1 : Shape := ⟨1, ![1]⟩
abbrev S1x1024x4096 : Shape := ⟨3, ![1, 1024, 4096]⟩
abbrev S1024x4096 : Shape := ⟨2, ![1024, 4096]⟩
abbrev S1024x64 : Shape := ⟨2, ![1024, 64]⟩
abbrev S16384x64 : Shape := ⟨2, ![16384, 64]⟩

abbrev nBuf : Space → Nat
  | .hbm => 3
  | .vmem => 3
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S32768x64, .f32⟩
  | .local _ .vmem, ⟨0, _⟩ => ⟨S2x1024x4096, .f32⟩
  | .local _ .vmem, ⟨1, _⟩ => ⟨S64x4096, .f32⟩
  | .local _ .vmem, ⟨2, _⟩ => ⟨S32768x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none

def k0_off1 (c0_i32 : BitVec 32) : Fin 1 → Nat :=
  let c2_i32 : BitVec 32 := 2#32
  let v0 : BitVec 32 := Scalar.remsi c0_i32 c2_i32
  ![v0.toNat]
def k0_off2 (c0_i32 : BitVec 32) : Fin 3 → Nat :=
  let c2_i32 : BitVec 32 := 2#32
  let v0 : BitVec 32 := Scalar.remsi c0_i32 c2_i32
  let c0_i32_0 : BitVec 32 := 0#32
  let c0_i32_1 : BitVec 32 := 0#32
  ![v0.toNat, 0, 0]
def k0_off3 : Fin 3 → Nat :=
  let c0_i32_14 : BitVec 32 := 0#32
  let c2_i32_15 : BitVec 32 := 2#32
  let v18 : BitVec 32 := Scalar.remsi c0_i32_14 c2_i32_15
  let v19 : Index := Scalar.indexCast v18
  let c0 : Index := 0#32
  let c0_16 : Index := 0#32
  ![v19.toNat, 0, 0]
def k0_cond1 : BitVec 1 :=
  let c1_i32_21 : BitVec 32 := 1#32
  let c16_i32 : BitVec 32 := 16#32
  let v27 : BitVec 32 := Scalar.remsi c1_i32_21 c16_i32
  let c0_i32_22 : BitVec 32 := 0#32
  let v28 : BitVec 1 := Scalar.cmpi .eq v27 c0_i32_22
  let v29 : BitVec 32 := Scalar.extui v28
  let c0_i32_23 : BitVec 32 := 0#32
  let v30 : BitVec 1 := Scalar.cmpi .ne v29 c0_i32_23
  v30

def k0_off4 : Fin 1 → Nat :=
  let c_m1_i32 : BitVec 32 := 4294967295#32
  let c0_i32_36 : BitVec 32 := 0#32
  let v40 : BitVec 32 := Scalar.maxsi c_m1_i32 c0_i32_36
  ![v40.toNat]
def k0_off5 : Fin 2 → Nat :=
  let c_m1_i32 : BitVec 32 := 4294967295#32
  let c0_i32_36 : BitVec 32 := 0#32
  let v40 : BitVec 32 := Scalar.maxsi c_m1_i32 c0_i32_36
  let c16384_i32_38 : BitVec 32 := 16384#32
  let v42 : BitVec 32 := Scalar.muli v40 c16384_i32_38
  let c0_i32_39 : BitVec 32 := 0#32
  ![v42.toNat, 0]
@[reducible] def k0_t1_loop : Scf.Loop 32 :=
  let c1_i32_24 : BitVec 32 := 1#32
  let c31_i32 : BitVec 32 := 31#32
  let v31 : BitVec 32 := Scalar.addi c1_i32_24 c31_i32
  let c1_i32_25 : BitVec 32 := 1#32
  ⟨c1_i32_24, v31, c1_i32_25⟩
def k0_cond2 (k0_t1 : Fin k0_t1_loop.trips) : BitVec 1 :=
  let c1_i32_24 : BitVec 32 := 1#32
  let c1_i32_25 : BitVec 32 := 1#32
  let arg9 : BitVec 32 := Scf.iv c1_i32_24 c1_i32_25 k0_t1
  let c2_i32_36 : BitVec 32 := 2#32
  let v40 : BitVec 32 := Scalar.addi arg9 c2_i32_36
  let c1_i32_37 : BitVec 32 := 1#32
  let v41 : BitVec 32 := Scalar.subi v40 c1_i32_37
  let c32_i32 : BitVec 32 := 32#32
  let v42 : BitVec 1 := Scalar.cmpi .slt v41 c32_i32
  let v43 : BitVec 32 := Scalar.extui v42
  let c0_i32_38 : BitVec 32 := 0#32
  let v44 : BitVec 1 := Scalar.cmpi .ne v43 c0_i32_38
  v44

def k0_off6 (k0_t1 : Fin k0_t1_loop.trips) : Fin 1 → Nat :=
  let c1_i32_24 : BitVec 32 := 1#32
  let c1_i32_25 : BitVec 32 := 1#32
  let arg9 : BitVec 32 := Scf.iv c1_i32_24 c1_i32_25 k0_t1
  let c2_i32_56 : BitVec 32 := 2#32
  let v68 : BitVec 32 := Scalar.addi arg9 c2_i32_56
  let c1_i32_57 : BitVec 32 := 1#32
  let v69 : BitVec 32 := Scalar.subi v68 c1_i32_57
  let c2_i32_58 : BitVec 32 := 2#32
  let v70 : BitVec 32 := Scalar.remsi v69 c2_i32_58
  ![v70.toNat]
def k0_off7 (k0_t1 : Fin k0_t1_loop.trips) : Fin 3 → Nat :=
  let c1_i32_24 : BitVec 32 := 1#32
  let c1_i32_25 : BitVec 32 := 1#32
  let arg9 : BitVec 32 := Scf.iv c1_i32_24 c1_i32_25 k0_t1
  let c2_i32_56 : BitVec 32 := 2#32
  let v68 : BitVec 32 := Scalar.addi arg9 c2_i32_56
  let c1_i32_57 : BitVec 32 := 1#32
  let v69 : BitVec 32 := Scalar.subi v68 c1_i32_57
  let c2_i32_58 : BitVec 32 := 2#32
  let v70 : BitVec 32 := Scalar.remsi v69 c2_i32_58
  let c0_i32_60 : BitVec 32 := 0#32
  let c0_i32_61 : BitVec 32 := 0#32
  ![v70.toNat, 0, 0]
def k0_off8 (k0_t1 : Fin k0_t1_loop.trips) : Fin 2 → Nat :=
  let c1_i32_24 : BitVec 32 := 1#32
  let c1_i32_25 : BitVec 32 := 1#32
  let arg9 : BitVec 32 := Scf.iv c1_i32_24 c1_i32_25 k0_t1
  let c2_i32_56 : BitVec 32 := 2#32
  let v68 : BitVec 32 := Scalar.addi arg9 c2_i32_56
  let c1_i32_57 : BitVec 32 := 1#32
  let v69 : BitVec 32 := Scalar.subi v68 c1_i32_57
  let c1024_i32_59 : BitVec 32 := 1024#32
  let v71 : BitVec 32 := Scalar.muli v69 c1024_i32_59
  let c0_i32_62 : BitVec 32 := 0#32
  ![v71.toNat, 0]
def k0_off9 (k0_t1 : Fin k0_t1_loop.trips) : Fin 1 → Nat :=
  let c1_i32_24 : BitVec 32 := 1#32
  let c1_i32_25 : BitVec 32 := 1#32
  let arg9 : BitVec 32 := Scf.iv c1_i32_24 c1_i32_25 k0_t1
  let c2_i32_39 : BitVec 32 := 2#32
  let v45 : BitVec 32 := Scalar.remsi arg9 c2_i32_39
  ![v45.toNat]
def k0_off10 (k0_t1 : Fin k0_t1_loop.trips) : Fin 3 → Nat :=
  let c1_i32_24 : BitVec 32 := 1#32
  let c1_i32_25 : BitVec 32 := 1#32
  let arg9 : BitVec 32 := Scf.iv c1_i32_24 c1_i32_25 k0_t1
  let c2_i32_39 : BitVec 32 := 2#32
  let v45 : BitVec 32 := Scalar.remsi arg9 c2_i32_39
  let c0_i32_41 : BitVec 32 := 0#32
  let c0_i32_42 : BitVec 32 := 0#32
  ![v45.toNat, 0, 0]
def k0_off11 (k0_t1 : Fin k0_t1_loop.trips) : Fin 2 → Nat :=
  let c1_i32_24 : BitVec 32 := 1#32
  let c1_i32_25 : BitVec 32 := 1#32
  let arg9 : BitVec 32 := Scf.iv c1_i32_24 c1_i32_25 k0_t1
  let c1024_i32_40 : BitVec 32 := 1024#32
  let v46 : BitVec 32 := Scalar.muli arg9 c1024_i32_40
  let c0_i32_43 : BitVec 32 := 0#32
  ![v46.toNat, 0]
def k0_off12 (k0_t1 : Fin k0_t1_loop.trips) : Fin 3 → Nat :=
  let c1_i32_24 : BitVec 32 := 1#32
  let c1_i32_25 : BitVec 32 := 1#32
  let arg9 : BitVec 32 := Scf.iv c1_i32_24 c1_i32_25 k0_t1
  let c2_i32_44 : BitVec 32 := 2#32
  let v52 : BitVec 32 := Scalar.remsi arg9 c2_i32_44
  let v53 : Index := Scalar.indexCast v52
  let c0_45 : Index := 0#32
  let c0_46 : Index := 0#32
  ![v53.toNat, 0, 0]
def k0_off13 (k0_t1 : Fin k0_t1_loop.trips) : Fin 2 → Nat :=
  let c1_i32_24 : BitVec 32 := 1#32
  let c1_i32_25 : BitVec 32 := 1#32
  let arg9 : BitVec 32 := Scf.iv c1_i32_24 c1_i32_25 k0_t1
  let c1024_i32_50 : BitVec 32 := 1024#32
  let v58 : BitVec 32 := Scalar.muli arg9 c1024_i32_50
  let v59 : Index := Scalar.indexCast v58
  let c0_51 : Index := 0#32
  ![v59.toNat, 0]
def k0_cond3 (k0_t1 : Fin k0_t1_loop.trips) : BitVec 1 :=
  let c1_i32_24 : BitVec 32 := 1#32
  let c1_i32_25 : BitVec 32 := 1#32
  let arg9 : BitVec 32 := Scf.iv c1_i32_24 c1_i32_25 k0_t1
  let c1_i32_52 : BitVec 32 := 1#32
  let v63 : BitVec 32 := Scalar.addi arg9 c1_i32_52
  let c16_i32_53 : BitVec 32 := 16#32
  let v64 : BitVec 32 := Scalar.remsi v63 c16_i32_53
  let c0_i32_54 : BitVec 32 := 0#32
  let v65 : BitVec 1 := Scalar.cmpi .eq v64 c0_i32_54
  let v66 : BitVec 32 := Scalar.extui v65
  let c0_i32_55 : BitVec 32 := 0#32
  let v67 : BitVec 1 := Scalar.cmpi .ne v66 c0_i32_55
  v67

def k0_off14 (k0_t1 : Fin k0_t1_loop.trips) : Fin 1 → Nat :=
  let c1_i32_24 : BitVec 32 := 1#32
  let c1_i32_25 : BitVec 32 := 1#32
  let arg9 : BitVec 32 := Scf.iv c1_i32_24 c1_i32_25 k0_t1
  let c1_i32_56 : BitVec 32 := 1#32
  let v68 : BitVec 32 := Scalar.addi arg9 c1_i32_56
  let c0_i32_58 : BitVec 32 := 0#32
  let v70 : BitVec 1 := Scalar.cmpi .sgt v68 c0_i32_58
  let v71 : BitVec 32 := Scalar.extui v70
  let c0_i32_59 : BitVec 32 := 0#32
  let v72 : BitVec 1 := Scalar.cmpi .slt v68 c0_i32_59
  let v73 : BitVec 32 := Scalar.extui v72
  let v74 : BitVec 32 := Scalar.subi v71 v73
  let c16_i32_57 : BitVec 32 := 16#32
  let c0_i32_60 : BitVec 32 := 0#32
  let v75 : BitVec 1 := Scalar.cmpi .sgt c16_i32_57 c0_i32_60
  let v76 : BitVec 32 := Scalar.extui v75
  let c0_i32_61 : BitVec 32 := 0#32
  let v77 : BitVec 1 := Scalar.cmpi .slt c16_i32_57 c0_i32_61
  let v78 : BitVec 32 := Scalar.extui v77
  let v79 : BitVec 32 := Scalar.subi v76 v78
  let v80 : BitVec 1 := Scalar.cmpi .ne v74 v79
  let v81 : BitVec 32 := Scalar.remsi v68 c16_i32_57
  let c0_i32_62 : BitVec 32 := 0#32
  let v82 : BitVec 1 := Scalar.cmpi .ne v81 c0_i32_62
  let v83 : BitVec 1 := Scalar.andi v80 v82
  let v69 : BitVec 32 := Scalar.divsi v68 c16_i32_57
  let c1_i32_63 : BitVec 32 := 1#32
  let v84 : BitVec 32 := Scalar.subi v69 c1_i32_63
  let v85 : BitVec 32 := Scalar.select v83 v84 v69
  let c1_i32_64 : BitVec 32 := 1#32
  let v86 : BitVec 32 := Scalar.subi v85 c1_i32_64
  let c0_i32_65 : BitVec 32 := 0#32
  let v87 : BitVec 32 := Scalar.maxsi v86 c0_i32_65
  ![v87.toNat]
def k0_off15 (k0_t1 : Fin k0_t1_loop.trips) : Fin 2 → Nat :=
  let c1_i32_24 : BitVec 32 := 1#32
  let c1_i32_25 : BitVec 32 := 1#32
  let arg9 : BitVec 32 := Scf.iv c1_i32_24 c1_i32_25 k0_t1
  let c1_i32_56 : BitVec 32 := 1#32
  let v68 : BitVec 32 := Scalar.addi arg9 c1_i32_56
  let c0_i32_58 : BitVec 32 := 0#32
  let v70 : BitVec 1 := Scalar.cmpi .sgt v68 c0_i32_58
  let v71 : BitVec 32 := Scalar.extui v70
  let c0_i32_59 : BitVec 32 := 0#32
  let v72 : BitVec 1 := Scalar.cmpi .slt v68 c0_i32_59
  let v73 : BitVec 32 := Scalar.extui v72
  let v74 : BitVec 32 := Scalar.subi v71 v73
  let c16_i32_57 : BitVec 32 := 16#32
  let c0_i32_60 : BitVec 32 := 0#32
  let v75 : BitVec 1 := Scalar.cmpi .sgt c16_i32_57 c0_i32_60
  let v76 : BitVec 32 := Scalar.extui v75
  let c0_i32_61 : BitVec 32 := 0#32
  let v77 : BitVec 1 := Scalar.cmpi .slt c16_i32_57 c0_i32_61
  let v78 : BitVec 32 := Scalar.extui v77
  let v79 : BitVec 32 := Scalar.subi v76 v78
  let v80 : BitVec 1 := Scalar.cmpi .ne v74 v79
  let v81 : BitVec 32 := Scalar.remsi v68 c16_i32_57
  let c0_i32_62 : BitVec 32 := 0#32
  let v82 : BitVec 1 := Scalar.cmpi .ne v81 c0_i32_62
  let v83 : BitVec 1 := Scalar.andi v80 v82
  let v69 : BitVec 32 := Scalar.divsi v68 c16_i32_57
  let c1_i32_63 : BitVec 32 := 1#32
  let v84 : BitVec 32 := Scalar.subi v69 c1_i32_63
  let v85 : BitVec 32 := Scalar.select v83 v84 v69
  let c1_i32_64 : BitVec 32 := 1#32
  let v86 : BitVec 32 := Scalar.subi v85 c1_i32_64
  let c0_i32_65 : BitVec 32 := 0#32
  let v87 : BitVec 32 := Scalar.maxsi v86 c0_i32_65
  let c16384_i32_67 : BitVec 32 := 16384#32
  let v89 : BitVec 32 := Scalar.muli v87 c16384_i32_67
  let c0_i32_68 : BitVec 32 := 0#32
  ![v89.toNat, 0]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩

abbrev nBuf : Space → Nat
  | .hbm => 4
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Hand.Names.lean ====
/-
  Names for the pieces the double-buffered kernel moves, and the closed forms of the offsets its loop prints.

  The kernel streams `x` in 32 row blocks through the two slots of `x_buf`, and writes the output back in two halves.
  Every slice the body takes of an operand, of a scratch buffer or of a semaphore array is given one name here (`xBlk`,
  `xSlot`, `oHalf`, `yHalf`, `xSem`, `ySem`); at trip `k` of the loop the block at hand is block `k + 1`.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameValue
public import Idealize.ShloMosaic.Lib.Ring
public import Idealize.ShloMosaic.Lib.Affine
public import Idealize.ShloMosaic.Lib.Tactic

@[expose] public section

noncomputable section

namespace Cert.Proof.Hand

open Cert.KernelIdeal Cert.KernelIdeal.Gen
open Idealize.ShloMosaic
open Idealize.ShloMosaic.TcCoe Idealize.ShloMosaic.Tactic
open Idealize.SL Idealize.SL.RA Idealize.SL.BI

/-! ## The buffers -/

/-- The operand `x`. -/
abbrev xM : Memref sig .tc .hbm S32768x4096 .f32 := Memref.whole main_arg0
/-- The operand `W`. -/
abbrev wM : Memref sig .tc .hbm S64x4096 .f32 := Memref.whole main_arg1
/-- The result. -/
abbrev yM : Memref sig .tc .hbm S32768x64 .f32 := Memref.whole main_v0
/-- `x_buf`, the two slots. -/
abbrev xBufM : Memref sig .tc .vmem S2x1024x4096 .f32 := Memref.whole cc0_scratch0
/-- `w_buf`. -/
abbrev wBufM : Memref sig .tc .vmem S64x4096 .f32 := Memref.whole cc0_scratch1
/-- `o_buf`, the whole output. -/
abbrev oBufM : Memref sig .tc .vmem S32768x64 .f32 := Memref.whole cc0_scratch2

/-! ## The pieces -/

/-- Where block `b` of `x` starts. -/
abbrev blkOff (b : Fin 32) : Fin 2 → Nat := ![b.val * 1024, 0]
/-- Where slot `s` of `x_buf` starts. -/
abbrev slotOff (s : Fin 2) : Fin 3 → Nat := ![s.val, 0, 0]
/-- Where half `h` of the output starts. -/
abbrev halfOff (h : Fin 2) : Fin 2 → Nat := ![h.val * 16384, 0]
/-- Where cell `s` of a two-cell semaphore array sits. -/
abbrev semOff (s : Fin 2) : Fin 1 → Nat := ![s.val]

/-- Every block lies in `x`. -/
theorem blkOff_inb (b : Fin 32) : ∀ a, blkOff b a + S1024x4096.size a ≤ S32768x4096.size a := by
  have := b.isLt; intro a; fin_cases a
  · show b.val * 1024 + 1024 ≤ 32768; omega
  · show 0 + 4096 ≤ 4096; omega
/-- Every slot lies in `x_buf`. -/
theorem slotOff_inb (s : Fin 2) : ∀ a, slotOff s a + S1x1024x4096.size a ≤ S2x1024x4096.size a := by
  have := s.isLt; intro a; fin_cases a
  · show s.val + 1 ≤ 2; omega
  · show 0 + 1024 ≤ 1024; omega
  · show 0 + 4096 ≤ 4096; omega
/-- Both halves lie in the output. -/
theorem halfOff_inb (h : Fin 2) : ∀ a, halfOff h a + S16384x64.size a ≤ S32768x64.size a := by
  have := h.isLt; intro a; fin_cases a
  · show h.val * 16384 + 16384 ≤ 32768; omega
  · show 0 + 64 ≤ 64; omega
/-- Every block's rows lie in the output. -/
theorem rowOff_inb (b : Fin 32) : ∀ a, blkOff b a + S1024x64.size a ≤ S32768x64.size a := by
  have := b.isLt; intro a; fin_cases a
  · show b.val * 1024 + 1024 ≤ 32768; omega
  · show 0 + 64 ≤ 64; omega
/-- Both semaphores lie in their array. -/
theorem semOff_inb (s : Fin 2) : ∀ a, semOff s a + S1.size a ≤ S2.size a := by
  have := s.isLt; intro a; fin_cases a; show s.val + 1 ≤ 2; omega

/-- Block `b` of `x`. -/
def xBlk (b : Fin 32) : Memref sig .tc .hbm S1024x4096 .f32 :=
  xM.slice (Rect.unit (s := S32768x4096) (blkOff b) S1024x4096.size (blkOff_inb b)) (fun _ => rfl)
/-- Slot `s` of `x_buf`. -/
def xSlot (s : Fin 2) : Memref sig .tc .vmem S1024x4096 .f32 :=
  (xBufM.slice (Rect.unit (s := S2x1024x4096) (slotOff s) S1x1024x4096.size (slotOff_inb s)) (fun _ => rfl)).squeeze S1024x4096 squeezes_S1x1024x4096_S1024x4096
/-- Half `h` of `o_buf`. -/
def oHalf (h : Fin 2) : Memref sig .tc .vmem S16384x64 .f32 :=
  oBufM.slice (Rect.unit (s := S32768x64) (halfOff h) S16384x64.size (halfOff_inb h)) (fun _ => rfl)
/-- Half `h` of the result. -/
def yHalf (h : Fin 2) : Memref sig .tc .hbm S16384x64 .f32 :=
  yM.slice (Rect.unit (s := S32768x64) (halfOff h) S16384x64.size (halfOff_inb h)) (fun _ => rfl)
/-- The semaphore of slot `s`. -/
def xSem (s : Fin 2) : DmaSems sig S_ := (cc0_scratch3.slice (Rect.unit (s := S2) (semOff s) S1.size (semOff_inb s))).squeeze S_ squeezes_S1_S_
/-- The semaphore of half `h`'s copy out. -/
def ySem (h : Fin 2) : DmaSems sig S_ := (cc0_scratch5.slice (Rect.unit (s := S2) (semOff h) S1.size (semOff_inb h))).squeeze S_ squeezes_S1_S_
/-- The semaphore of `W`'s copy. -/
abbrev wSem : DmaSems sig S_ := cc0_scratch4

instance (s : Fin 2) : ClosedOff (slotOff s) := ⟨slotOff s, rfl⟩
instance (b : Fin 32) : ClosedOff (blkOff b) := ⟨blkOff b, rfl⟩
instance (h : Fin 2) : ClosedOff (halfOff h) := ⟨halfOff h, rfl⟩

/-! ## The loop's offsets in closed form -/

/-- The loop runs 31 trips. -/
theorem trips_eq : k0_t1_loop.trips = 31 := by decide

/-- The loop has 31 trips. -/
theorem trip_lt (k : Fin k0_t1_loop.trips) : k.val < 31 := Nat.lt_of_lt_of_eq k.isLt trips_eq

/-- Trip `k` waits for block `k + 1`: on that block's semaphore, -/
theorem off9_eq : ∀ k : Fin k0_t1_loop.trips, k0_off9 k = semOff (Ring.sl 2 (k.val + 1)) := by decide
/-- for that block's slot, -/
theorem off10_eq : ∀ k : Fin k0_t1_loop.trips, k0_off10 k = slotOff (Ring.sl 2 (k.val + 1)) := by decide
/-- the rows of `x` it waits for are block `k + 1`'s, -/
theorem off11_eq : ∀ k : Fin k0_t1_loop.trips, k0_off11 k = blkOff (Ring.bk 32 (k.val + 1)) := by decide
/-- the slot it reads is block `k + 1`'s, -/
theorem off12_eq : ∀ k : Fin k0_t1_loop.trips, k0_off12 k = slotOff (Ring.sl 2 (k.val + 1)) := by decide
/-- and the rows it stores are block `k + 1`'s. -/
theorem off13_eq : ∀ k : Fin k0_t1_loop.trips, k0_off13 k = blkOff (Ring.bk 32 (k.val + 1)) := by decide
/-- Trip `k` fetches block `k + 2`: its semaphore, -/
theorem off6_eq : ∀ k : Fin k0_t1_loop.trips, k0_off6 k = semOff (Ring.sl 2 (k.val + 2)) := by decide
/-- its slot, -/
theorem off7_eq : ∀ k : Fin k0_t1_loop.trips, k0_off7 k = slotOff (Ring.sl 2 (k.val + 2)) := by decide
/-- and its rows of `x`. -/
theorem off8_eq : ∀ k : Fin k0_t1_loop.trips, k.val + 2 < 32 → k0_off8 k = blkOff (Ring.bk 32 (k.val + 2)) := by decide
/-- A trip fetches unless it is the last one. -/
theorem cond2_iff : ∀ k : Fin k0_t1_loop.trips, k0_cond2 k = 1#1 ↔ k.val + 2 < 32 := by decide
/-- A trip starts a copy out if it stores the last block of a half. -/
theorem cond3_iff : ∀ k : Fin k0_t1_loop.trips, k0_cond3 k = 1#1 ↔ (k.val = 14 ∨ k.val = 30) := by decide
/-- Trip 14 sends half 0, on its semaphore, -/
theorem off14_eq0 : ∀ k : Fin k0_t1_loop.trips, k.val = 14 → k0_off14 k = semOff 0 := by decide
/-- from its rows. -/
theorem off15_eq0 : ∀ k : Fin k0_t1_loop.trips, k.val = 14 → k0_off15 k = halfOff 0 := by decide
/-- Trip 30 sends half 1, on its semaphore, -/
theorem off14_eq1 : ∀ k : Fin k0_t1_loop.trips, k.val = 30 → k0_off14 k = semOff 1 := by decide
/-- from its rows. -/
theorem off15_eq1 : ∀ k : Fin k0_t1_loop.trips, k.val = 30 → k0_off15 k = halfOff 1 := by decide
/-- The first block ends no half. -/
theorem cond1_false : ¬ k0_cond1 = 1#1 := by decide

instance (k : Fin k0_t1_loop.trips) : ClosedOff (k0_off12 k) := ⟨slotOff (Ring.sl 2 (k.val + 1)), off12_eq k⟩
instance (k : Fin k0_t1_loop.trips) : ClosedOff (k0_off13 k) := ⟨blkOff (Ring.bk 32 (k.val + 1)), off13_eq k⟩
instance : ClosedOff k0_off3 := ⟨slotOff 0, by decide⟩

/-! ## The slices the body takes are the named pieces -/

/-- A slice of `x` at a block's offset is the block, -/
theorem xBlk_of {off : Fin 2 → Nat} {b : Fin 32} (e : off = blkOff b) (hh hs) :
    xM.slice (Rect.unit (s := S32768x4096) off S1024x4096.size hh) hs = xBlk b := Memref.slice_unit_congr _ e _ _ hs (fun _ => rfl)
/-- one of `x_buf` at a slot's offset the slot, -/
theorem xSlot_of {off : Fin 3 → Nat} {s : Fin 2} (e : off = slotOff s) (hh hs) :
    (xBufM.slice (Rect.unit (s := S2x1024x4096) off S1x1024x4096.size hh) hs).squeeze S1024x4096 squeezes_S1x1024x4096_S1024x4096 = xSlot s :=
  congrArg (fun M : Memref sig .tc .vmem S1x1024x4096 .f32 => M.squeeze S1024x4096 squeezes_S1x1024x4096_S1024x4096) (Memref.slice_unit_congr _ e _ _ _ _)
/-- one of `o_buf` at a half's offset the half, -/
theorem oHalf_of {off : Fin 2 → Nat} {h : Fin 2} (e : off = halfOff h) (hh hs) :
    oBufM.slice (Rect.unit (s := S32768x64) off S16384x64.size hh) hs = oHalf h := Memref.slice_unit_congr _ e _ _ hs (fun _ => rfl)
/-- one of the result likewise, -/
theorem yHalf_of {off : Fin 2 → Nat} {h : Fin 2} (e : off = halfOff h) (hh hs) :
    yM.slice (Rect.unit (s := S32768x64) off S16384x64.size hh) hs = yHalf h := Memref.slice_unit_congr _ e _ _ hs (fun _ => rfl)
/-- and one of a semaphore array its semaphore: `x`'s, -/
theorem xSem_of {off : Fin 1 → Nat} {s : Fin 2} (e : off = semOff s) (hh) :
    (cc0_scratch3.slice (Rect.unit (s := S2) off S1.size hh)).squeeze S_ squeezes_S1_S_ = xSem s :=
  congrArg (fun A : DmaSems sig S1 => A.squeeze S_ squeezes_S1_S_) (SemArray.slice_unit_congr _ e _ _)
/-- the result's. -/
theorem ySem_of {off : Fin 1 → Nat} {s : Fin 2} (e : off = semOff s) (hh) :
    (cc0_scratch5.slice (Rect.unit (s := S2) off S1.size hh)).squeeze S_ squeezes_S1_S_ = ySem s :=
  congrArg (fun A : DmaSems sig S1 => A.squeeze S_ squeezes_S1_S_) (SemArray.slice_unit_congr _ e _ _)

/-- Before the loop: blocks 0 and 1, slots 0 and 1, their cells. -/
@[sl_canon] theorem blkL0 (hh hs) : xM.slice (Rect.unit (s := S32768x4096) ![0, 0] S1024x4096.size hh) hs = xBlk 0 := xBlk_of (by decide) _ _
@[sl_canon] theorem blkL1 (hh hs) : xM.slice (Rect.unit (s := S32768x4096) ![1024, 0] S1024x4096.size hh) hs = xBlk 1 := xBlk_of (by decide) _ _
@[sl_canon] theorem slotL0 (hh hs) : (xBufM.slice (Rect.unit (s := S2x1024x4096) (k0_off2 0#32) S1x1024x4096.size hh) hs).squeeze S1024x4096 squeezes_S1x1024x4096_S1024x4096 = xSlot 0 := xSlot_of (by decide) _ _
@[sl_canon] theorem slotL1 (hh hs) : (xBufM.slice (Rect.unit (s := S2x1024x4096) (k0_off2 1#32) S1x1024x4096.size hh) hs).squeeze S1024x4096 squeezes_S1x1024x4096_S1024x4096 = xSlot 1 := xSlot_of (by decide) _ _
@[sl_canon] theorem semL0 (hh) : (cc0_scratch3.slice (Rect.unit (s := S2) (k0_off1 0#32) S1.size hh)).squeeze S_ squeezes_S1_S_ = xSem 0 := xSem_of (by decide) _
@[sl_canon] theorem semL1 (hh) : (cc0_scratch3.slice (Rect.unit (s := S2) (k0_off1 1#32) S1.size hh)).squeeze S_ squeezes_S1_S_ = xSem 1 := xSem_of (by decide) _

/-- At trip `k`: block `k + 1` waited for in its slot, block `k + 2` sent on its way into the other slot. -/
@[sl_canon] theorem blkW (k : Fin k0_t1_loop.trips) (hh hs) : xM.slice (Rect.unit (s := S32768x4096) (k0_off11 k) S1024x4096.size hh) hs = xBlk (Ring.bk 32 (k.val + 1)) := xBlk_of (off11_eq k) _ _
@[sl_canon] theorem slotW (k : Fin k0_t1_loop.trips) (hh hs) : (xBufM.slice (Rect.unit (s := S2x1024x4096) (k0_off10 k) S1x1024x4096.size hh) hs).squeeze S1024x4096 squeezes_S1x1024x4096_S1024x4096 = xSlot (Ring.sl 2 (k.val + 1)) := xSlot_of (off10_eq k) _ _
@[sl_canon] theorem semW (k : Fin k0_t1_loop.trips) (hh) : (cc0_scratch3.slice (Rect.unit (s := S2) (k0_off9 k) S1.size hh)).squeeze S_ squeezes_S1_S_ = xSem (Ring.sl 2 (k.val + 1)) := xSem_of (off9_eq k) _
@[sl_canon] theorem blkI (k : Fin k0_t1_loop.trips) (hk : k.val + 2 < 32) (hh hs) : xM.slice (Rect.unit (s := S32768x4096) (k0_off8 k) S1024x4096.size hh) hs = xBlk (Ring.bk 32 (k.val + 2)) := xBlk_of (off8_eq k hk) _ _
@[sl_canon] theorem slotI (k : Fin k0_t1_loop.trips) (hh hs) : (xBufM.slice (Rect.unit (s := S2x1024x4096) (k0_off7 k) S1x1024x4096.size hh) hs).squeeze S1024x4096 squeezes_S1x1024x4096_S1024x4096 = xSlot (Ring.sl 2 (k.val + 2)) := xSlot_of (off7_eq k) _ _
@[sl_canon] theorem semI (k : Fin k0_t1_loop.trips) (hh) : (cc0_scratch3.slice (Rect.unit (s := S2) (k0_off6 k) S1.size hh)).squeeze S_ squeezes_S1_S_ = xSem (Ring.sl 2 (k.val + 2)) := xSem_of (off6_eq k) _

/-- At trips 14 and 30: a half of the output copied out. -/
@[sl_canon] theorem oHalfK0 (k : Fin k0_t1_loop.trips) (hk : k.val = 14) (hh hs) : oBufM.slice (Rect.unit (s := S32768x64) (k0_off15 k) S16384x64.size hh) hs = oHalf 0 := oHalf_of (off15_eq0 k hk) _ _
@[sl_canon] theorem yHalfK0 (k : Fin k0_t1_loop.trips) (hk : k.val = 14) (hh hs) : yM.slice (Rect.unit (s := S32768x64) (k0_off15 k) S16384x64.size hh) hs = yHalf 0 := yHalf_of (off15_eq0 k hk) _ _
@[sl_canon] theorem ySemK0 (k : Fin k0_t1_loop.trips) (hk : k.val = 14) (hh) : (cc0_scratch5.slice (Rect.unit (s := S2) (k0_off14 k) S1.size hh)).squeeze S_ squeezes_S1_S_ = ySem 0 := ySem_of (off14_eq0 k hk) _
@[sl_canon] theorem oHalfK1 (k : Fin k0_t1_loop.trips) (hk : k.val = 30) (hh hs) : oBufM.slice (Rect.unit (s := S32768x64) (k0_off15 k) S16384x64.size hh) hs = oHalf 1 := oHalf_of (off15_eq1 k hk) _ _
@[sl_canon] theorem yHalfK1 (k : Fin k0_t1_loop.trips) (hk : k.val = 30) (hh hs) : yM.slice (Rect.unit (s := S32768x64) (k0_off15 k) S16384x64.size hh) hs = yHalf 1 := yHalf_of (off15_eq1 k hk) _ _
@[sl_canon] theorem ySemK1 (k : Fin k0_t1_loop.trips) (hk : k.val = 30) (hh) : (cc0_scratch5.slice (Rect.unit (s := S2) (k0_off14 k) S1.size hh)).squeeze S_ squeezes_S1_S_ = ySem 1 := ySem_of (off14_eq1 k hk) _

/-- After the loop: the two halves' copies waited for. -/
@[sl_canon] theorem oHalfL0 (hh hs) : oBufM.slice (Rect.unit (s := S32768x64) ![0, 0] S16384x64.size hh) hs = oHalf 0 := oHalf_of (by decide) _ _
@[sl_canon] theorem oHalfL1 (hh hs) : oBufM.slice (Rect.unit (s := S32768x64) ![16384, 0] S16384x64.size hh) hs = oHalf 1 := oHalf_of (by decide) _ _
@[sl_canon] theorem yHalfL0 (hh hs) : yM.slice (Rect.unit (s := S32768x64) ![0, 0] S16384x64.size hh) hs = yHalf 0 := yHalf_of (by decide) _ _
@[sl_canon] theorem yHalfL1 (hh hs) : yM.slice (Rect.unit (s := S32768x64) ![16384, 0] S16384x64.size hh) hs = yHalf 1 := yHalf_of (by decide) _ _
@[sl_canon] theorem ySemL0 (hh) : (cc0_scratch5.slice (Rect.unit (s := S2) ![0] S1.size hh)).squeeze S_ squeezes_S1_S_ = ySem 0 := ySem_of (by decide) _
@[sl_canon] theorem ySemL1 (hh) : (cc0_scratch5.slice (Rect.unit (s := S2) ![1] S1.size hh)).squeeze S_ squeezes_S1_S_ = ySem 1 := ySem_of (by decide) _

end Cert.Proof.Hand

end
-- ==== Proof.Hand.Values.lean ====
/-
  What the kernel stores, for any interpretation of the floats.

  `blkProd b` is the product the kernel forms from block `b` of `x` and the weights; `outVal` is the whole output, row `r`
  of it row `r % 1024` of the product of block `r / 1024`. `RowsDone h n f` says that a buffer `f` holds that output on the
  rows of half `h` below block `n`: one more stored block turns `n` into `n + 1` (`RowsDone.store`).
-/
module

public import proofs.«01_k».proof.Proof.Hand.Names
public import Idealize.ShloMosaic.Lib.WritesUnit
public import Idealize.ShloMosaic.Lib.ValueIdxCore
public import Idealize.ShloMosaic.Lib.Pipeline.Value

@[expose] public section

noncomputable section

namespace Cert.Proof.Hand

open Cert.KernelIdeal Cert.KernelIdeal.Gen
open Idealize.ShloMosaic
open Idealize.ShloMosaic.TcCoe
open Idealize.ShloMosaic.ValueIdx

variable {F : FTy → Type} [FloatOps F]

/-- The contents of `x`. -/
abbrev XBuf (F : FTy → Type) (c : Dev nD) : Type := Buf (Elt F) (xM.view.loc (c : Thread nD τ))
/-- The contents of `W`. -/
abbrev WBuf (F : FTy → Type) (c : Dev nD) : Type := Buf (Elt F) (wM.view.loc (c : Thread nD τ))
/-- The contents of `o_buf`. -/
abbrev OBuf (F : FTy → Type) (c : Dev nD) : Type := Buf (Elt F) (oBufM.view.loc (c : Thread nD τ))

section
variable {c : Dev nD} (XA : XBuf F c) (WA : WBuf F c)

/-- The product of block `b` of `x` with the weights, contracted along the long axis of both. -/
def blkProd (b : Fin 32) : FVec F S1024x64 .f32 :=
  matmul dot_S1024x4096_S64x4096_S1024x64_1_1_0_0_n_n none ((xBlk b).view.read (Elt F) XA : FVec F S1024x4096 .f32)
    (wM.view.read (Elt F) WA : FVec F S64x4096 .f32) (constant S1024x64 .f32 0x00000000#32)

/-- The whole output: row `r` is row `r % 1024` of the product of block `r / 1024`. -/
def outVal : S32768x64.Idx → Elt F .f32 := fun y =>
  blkProd XA WA ⟨(y 0).val / 1024, by have := idx2_lt0 y; omega⟩ (ix2 ⟨(y 0).val % 1024, by omega⟩ (y 1))

/-- `f` holds the output on the rows of half `h` that lie in blocks before block `n`. -/
def RowsDone (h : Fin 2) (n : ℕ) (f : OBuf F c) : Prop :=
  ∀ y : S32768x64.Idx, h.val * 16384 ≤ (y 0).val → (y 0).val < n * 1024 → f y = outVal XA WA y

/-- No row is done at the start of a half, whatever the buffer holds. -/
theorem rowsDone_start (h : Fin 2) (f : OBuf F c) : RowsDone XA WA h (h.val * 16) f := fun y h1 h2 => by omega

omit [FloatOps F] in
/-- An unmasked store through a memref, read at an index, is the read of the one piece it lists. -/
theorem access_write_read {κ : Kind} {cs : Space} {s : Shape} {e : EltTy} (M : Memref sig κ cs s e) (r : Rect s) (f : M.view.ty.Contents (Elt F))
    (w : r.shape.Idx → Elt F e) :
    (M.access r).write (Elt F) f w Finset.univ = M.view.writes (Elt F) f [⟨r, w⟩] := rfl

omit [FloatOps F] in
/-- `o_buf`'s view reads its contents as they are. -/
theorem oBuf_read {c : Dev nD} (f : OBuf F c) : oBufM.view.read (Elt F) f = f := rfl

/-- Block `n`'s product stored over its rows: one more block is done. -/
theorem RowsDone.store {h : Fin 2} {b : Fin 32} {f : OBuf F c} (hf : RowsDone XA WA h b.val f) {off : Fin 2 → Nat} (e : off = blkOff b)
    (inb : ∀ a, off a + S1024x64.size a ≤ S32768x64.size a) :
    RowsDone XA WA h (b.val + 1)
      ((oBufM.access (Rect.unit (s := S32768x64) off S1024x64.size inb)).write (Elt F) f (blkProd XA WA b) Finset.univ) := by
  intro y h1 h2
  have hlt := idx2_lt1 y
  rw [access_write_read, ← oBuf_read (c := c) (oBufM.view.writes (Elt F) f _)]
  by_cases hy : (y 0).val < b.val * 1024
  · have hm := View.read_writes_cons_unit_of_not_mem (Val := Elt F) oBufM.view f inb (blkProd XA WA b) [] y e (0 : Fin 2) (Or.inl hy)
    rw [hm]; exact hf y h1 hy
  · have hm := View.read_writes_cons_unit_of_mem (Val := Elt F) oBufM.view f inb (blkProd XA WA b) [] y
      (ix2 ⟨(y 0).val % 1024, by omega⟩ (y 1)) e fun a => by
        fin_cases a
        · show (y 0).val = b.val * 1024 + (y 0).val % 1024; omega
        · show (y 1).val = 0 + (y 1).val; omega
    rw [hm]
    have hb : b = ⟨(y 0).val / 1024, by have := idx2_lt0 y; omega⟩ := Fin.ext (by show b.val = (y 0).val / 1024; omega)
    unfold outVal; rw [← hb]

/-- What a load of slot `s` reads once block `b` has landed there, and what is multiplied out of it. -/
theorem pay_eq {off : Fin 3 → Nat} {s : Fin 2} {b : Fin 32} (e : off = slotOff s)
    (inb : ∀ a, off a + S1x1024x4096.size a ≤ S2x1024x4096.size a)
    (fx : Buf (Elt F) ((xSlot s).view.loc (c : Thread nD τ)))
    (hx : (xSlot s).view.read (Elt F) fx = (xBlk b).view.read (Elt F) XA)
    (fw : Buf (Elt F) (wBufM.view.loc (c : Thread nD τ))) (hw : wBufM.view.read (Elt F) fw = wM.view.read (Elt F) WA)
    (inw : ∀ a, (![0, 0] : Fin 2 → Nat) a + S64x4096.size a ≤ S64x4096.size a) :
    k0_pay1 (xBufM.view.readAt (Elt F) (Rect.unit (s := S2x1024x4096) off S1x1024x4096.size inb).toLoadRect fx)
      (wBufM.view.readAt (Elt F) (Rect.unit (s := S64x4096) ![0, 0] S64x4096.size inw).toLoadRect fw) = blkProd XA WA b := by
  subst e
  have h1 : (shapeCast S1024x4096 (xBufM.view.readAt (Elt F) (Rect.unit (s := S2x1024x4096) (slotOff s) S1x1024x4096.size inb).toLoadRect fx)
      shapeCasts_S1x1024x4096_S1024x4096 : FVec F S1024x4096 .f32) = (xBlk b).view.read (Elt F) XA := hx
  have h2 : (wBufM.view.readAt (Elt F) (Rect.unit (s := S64x4096) ![0, 0] S64x4096.size inw).toLoadRect fw : FVec F S64x4096 .f32)
      = wM.view.read (Elt F) WA := by
    rw [← hw]; funext y
    refine congrArg (wBufM.view.read (Elt F) fw) (funext fun a => Fin.ext ?_)
    fin_cases a
    · show 0 + 1 * (y 0).val = (y 0).val; omega
    · show 0 + 1 * (y 1).val = (y 1).val; omega
  unfold k0_pay1 blkProd
  rw [h1, h2]
  exact shapeCast_self _ _

end

end Cert.Proof.Hand

end
-- ==== Proof.Hand.Trip.lean ====
/-
  The pieces of ownership the loop passes around, and what one trip does with them.

  A trip starts the transfer of the next block into the free slot (not on the last trip), waits for its own block, stores
  the block's product into its rows of `o_buf`, and after the last block of a half starts that half's copy to the result.
  `tripA`, `tripB` and `tripC` are the three kinds of trip.
-/
module

public import proofs.«01_k».proof.Proof.Hand.Values

@[expose] public section

noncomputable section

namespace Cert.Proof.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

/-- The ghost state: the pipeline library's, with counters for transfers. -/
abbrev UU (nD : Nat) (τ : Topo) : Type := UD sig nD τ
local notation "𝕄" => MT nD τ sig Unit (Elt F) ℕ (UU nD τ) ℕ
/-- The program has no unbounded loop. -/
abbrev 𝒱₀ : Variants := Variants.none

section Pieces
variable (c : Dev nD) (XA : Buf (Elt F) (xM.view.loc (c : Thread nD τ)))

/-- Slot `s`'s semaphore at zero. -/
abbrev xCellP (s : Fin 2) : sProp 𝕄 := semVal ((c : Thread nD τ), SemLoc.dma (xSem s).sem) 0
/-- Half `h`'s semaphore at zero. -/
abbrev yCellP (h : Fin 2) : sProp 𝕄 := semVal ((c : Thread nD τ), SemLoc.dma (ySem h).sem) 0
/-- Slot `s` held, at `f`. -/
abbrev slotP (s : Fin 2) (f : Buf (Elt F) ((xSlot s).view.loc (c : Thread nD τ))) : sProp 𝕄 :=
  (xSlot s).view.loc (c : Thread nD τ) ↦[(xSlot s).view.set]{fullShare} f
/-- Block `b` of `x` held, at `x`'s contents. -/
abbrev homeP (b : Fin 32) : sProp 𝕄 := (xBlk b).view.loc (c : Thread nD τ) ↦[(xBlk b).view.set]{fullShare} XA
/-- Half `h` of `o_buf` held, at `f`. -/
abbrev oHalfP (h : Fin 2) (f : Buf (Elt F) ((oHalf h).view.loc (c : Thread nD τ))) : sProp 𝕄 :=
  (oHalf h).view.loc (c : Thread nD τ) ↦[(oHalf h).view.set]{fullShare} f
/-- Half `h` of the result held, at `f`. -/
abbrev yHalfP (h : Fin 2) (f : Buf (Elt F) ((yHalf h).view.loc (c : Thread nD τ))) : sProp 𝕄 :=
  (yHalf h).view.loc (c : Thread nD τ) ↦[(yHalf h).view.set]{fullShare} f
/-- `w_buf` held, at `f`. -/
abbrev wBufP (f : Buf (Elt F) (wBufM.view.loc (c : Thread nD τ))) : sProp 𝕄 :=
  wBufM.view.loc (c : Thread nD τ) ↦[wBufM.view.set]{fullShare} f
/-- What the transfer of block `b` leaves in slot `s` over `f`. -/
abbrev landed (s : Fin 2) (b : Fin 32) (f : Buf (Elt F) ((xSlot s).view.loc (c : Thread nD τ))) : Buf (Elt F) ((xSlot s).view.loc (c : Thread nD τ)) :=
  (xSlot s).view.writes (Elt F) f [⟨Rect.whole S1024x4096, ReadAs.same.apply ((xBlk b).view.read (Elt F) XA)⟩]
/-- What one block's transfer counts on its semaphore. -/
abbrev NX : ℕ := 524288
/-- Slot `s` in flight with block `b`, issued over `f`. -/
abbrev xFlightP (s : Fin 2) (b : Fin 32) (f : Buf (Elt F) ((xSlot s).view.loc (c : Thread nD τ))) : sProp 𝕄 :=
  Transfers.Flight countersEmb (c : Thread nD τ) (SemLoc.dma (xSem s).sem) () NX iprop(slotP c s (landed c XA s b f) ∗ homeP c XA b)
end Pieces

section Trip
variable (c : Dev nD) (XA : XBuf F c) (WA : WBuf F c)

/-- What one half's copy counts on its semaphore. -/
abbrev NY : ℕ := 262144

/-- Half `h` of `o_buf` held, done below block `n`. -/
abbrev doneP (h : Fin 2) (n : ℕ) : sProp 𝕄 := iprop(∃ f, ⌜RowsDone XA WA h n f⌝ ∗ oHalfP c h f)
/-- What the copy out of half `h` leaves in the result over `y`. -/
abbrev copied (h : Fin 2) (f : Buf (Elt F) ((oHalf h).view.loc (c : Thread nD τ))) (y : Buf (Elt F) ((yHalf h).view.loc (c : Thread nD τ))) :
    Buf (Elt F) ((yHalf h).view.loc (c : Thread nD τ)) :=
  (yHalf h).view.writes (Elt F) y [⟨Rect.whole S16384x64, ReadAs.same.apply ((oHalf h).view.read (Elt F) f)⟩]
/-- Half `h` in flight to the result, the whole of it done. -/
abbrev yFlightP (h : Fin 2) : sProp 𝕄 :=
  iprop(∃ f y, ⌜RowsDone XA WA h (h.val * 16 + 16) f⌝ ∗
    Transfers.Flight countersEmb (c : Thread nD τ) (SemLoc.dma (ySem h).sem) () NY iprop(yHalfP c h (copied c h f y) ∗ oHalfP c h f))

variable {XA WA} in
/-- A half held done, from what its buffer holds. -/
theorem doneP_intro {h : Fin 2} {n : ℕ} {f : OBuf F c} (hf : RowsDone XA WA h n f) : oHalfP c h f ⊢ doneP c XA WA h n := by
  iintro H; iexists f
  isplitr [H]
  · ipureintro; exact hf
  · iexact H

variable {XA WA} in
/-- A half in flight, from what its buffer held when the copy was started. -/
theorem yFlightP_intro {h : Fin 2} {f : OBuf F c} (hf : RowsDone XA WA h (h.val * 16 + 16) f) (y) :
    (Transfers.Flight countersEmb (c : Thread nD τ) (SemLoc.dma (ySem h).sem) () NY iprop(yHalfP c h (copied c h f y) ∗ oHalfP c h f) : sProp 𝕄)
      ⊢ yFlightP c XA WA h := by
  iintro H; iexists f, y
  isplitr [H]
  · ipureintro; exact hf
  · iexact H

/-- Trip `k` of the loop. -/
abbrev trip (k : Fin k0_t1_loop.trips) : Prog (TpuEff nD τ sig (Elt F) Λ₀ .tc) Unit :=
  k0_t1_body (F := F) xM (Memref.isWhole_whole _) wM (Memref.isWhole_whole _) yM (Memref.isWhole_whole _) xBufM (Memref.isWhole_whole _)
    wBufM (Memref.isWhole_whole _) oBufM (Memref.isWhole_whole _) cc0_scratch3 cc0_scratch4 cc0_scratch5 k ()

/-- The rows a trip stores lie in `o_buf`, -/
theorem rowInb (k : Fin k0_t1_loop.trips) : ∀ a, k0_off13 k a + S1024x64.size a ≤ S32768x64.size a := off13_eq k ▸ rowOff_inb _
/-- the slot it reads lies in `x_buf`, -/
theorem slotInb (k : Fin k0_t1_loop.trips) : ∀ a, k0_off12 k a + S1x1024x4096.size a ≤ S2x1024x4096.size a := off12_eq k ▸ slotOff_inb _
/-- and the weights are read whole. -/
theorem wInb : ∀ a, (![0, 0] : Fin 2 → Nat) a + S64x4096.size a ≤ S64x4096.size a := by decide

/-- What `o_buf` holds after the store of trip `k` over `fo`, the block having landed over `f`. -/
abbrev storedBuf (k : Fin k0_t1_loop.trips) (fo : OBuf F c) (wf : Buf (Elt F) (wBufM.view.loc (c : Thread nD τ)))
    (f : Buf (Elt F) ((xSlot (Ring.sl 2 (k.val + 1))).view.loc (c : Thread nD τ))) : OBuf F c :=
  (oBufM.access (Rect.unit (s := S32768x64) (k0_off13 k) S1024x64.size (rowInb k))).write (Elt F) fo
    (k0_pay1 (xBufM.view.readAt (Elt F) (Rect.unit (s := S2x1024x4096) (k0_off12 k) S1x1024x4096.size (slotInb k)).toLoadRect
        (landed c XA (Ring.sl 2 (k.val + 1)) (Ring.bk 32 (k.val + 1)) f))
      (wBufM.view.readAt (Elt F) (Rect.unit (s := S64x4096) ![0, 0] S64x4096.size wInb).toLoadRect wf)) Finset.univ

/-- The contents stored at trip `k` are one more block done. -/
theorem stored {k : Fin k0_t1_loop.trips} {h : Fin 2} {fo : OBuf F c} (hfo : RowsDone XA WA h (k.val + 1) fo)
    {wf : Buf (Elt F) (wBufM.view.loc (c : Thread nD τ))} (hw : wBufM.view.read (Elt F) wf = wM.view.read (Elt F) WA)
    (f : Buf (Elt F) ((xSlot (Ring.sl 2 (k.val + 1))).view.loc (c : Thread nD τ))) :
    RowsDone XA WA h (k.val + 2) (storedBuf c XA k fo wf f) := by
  unfold storedBuf
  have hb : (Ring.bk 32 (k.val + 1)).val = k.val + 1 := Ring.bk_val (by have := trip_lt k; omega)
  rw [pay_eq XA WA (s := Ring.sl 2 (k.val + 1)) (b := Ring.bk 32 (k.val + 1)) (off12_eq k) (slotInb k) _ (View.read_writes_whole _ _ _) wf hw wInb]
  have := RowsDone.store XA WA (h := h) (b := Ring.bk 32 (k.val + 1)) (f := fo) (by rw [hb]; exact hfo) (off13_eq k) (rowInb k)
  rw [hb] at this; exact this

/-- A trip that sends the next block on its way and copies nothing out. -/
theorem tripA (k : Fin k0_t1_loop.trips) (h : Fin 2) (h2 : k.val + 2 < 32) (h3 : ¬ (k.val = 14 ∨ k.val = 30))
    (hlo : h.val * 16 ≤ k.val + 1) (hhi : k.val + 1 < h.val * 16 + 16) (wf)
    (hw : wBufM.view.read (Elt F) wf = wM.view.read (Elt F) WA) :
    iprop((∃ f, xFlightP c XA (Ring.sl 2 (k.val + 1)) (Ring.bk 32 (k.val + 1)) f) ∗ (∃ g, slotP c (Ring.sl 2 (k.val + 2)) g)
      ∗ xCellP c (Ring.sl 2 (k.val + 2)) ∗ homeP c XA (Ring.bk 32 (k.val + 2)) ∗ wBufP c wf ∗ doneP c XA WA h (k.val + 1)
      ∗ ∃ W, owes (c : Thread nD τ) 0 W)
      ⊢ wp frame (wpE (defs₀ (F := F)) 𝒱₀ (c : Thread nD τ) none) Set.univ (trip k) (fun _ =>
        iprop((∃ f, xFlightP c XA (Ring.sl 2 (k.val + 2)) (Ring.bk 32 (k.val + 2)) f) ∗ (∃ g, slotP c (Ring.sl 2 (k.val + 1)) g)
          ∗ xCellP c (Ring.sl 2 (k.val + 1)) ∗ homeP c XA (Ring.bk 32 (k.val + 1)) ∗ wBufP c wf ∗ doneP c XA WA h (k.val + 2)
          ∗ ∃ W, owes (c : Thread nD τ) 0 W)) := by
  have hc2 := (cond2_iff k).2 h2
  have hc3 : ¬ k0_cond3 k = 1#1 := fun e => h3 ((cond3_iff k).1 e)
  have hb : (Ring.bk 32 (k.val + 1)).val = k.val + 1 := Ring.bk_val (by omega)
  iintro ⟨⟨%f, HF⟩, ⟨%g, Hs⟩, Hc, Hx, Hw, ⟨%fo, %hfo, HO⟩, ⟨%W, HW⟩⟩
  dsimp only [trip]
  sl_unfold [k0_t1_body]
  sl_exec
  sl_step
  isplitl [Hc]; · iexists g; iexact Hc
  isplitl [HF_dst]; · iexists _; iexact HF_dst
  iframe HF HF_src Hw
  isplitl [HO]
  · iapply (doneP_intro c (f := storedBuf c XA k fo wf (xSlot (Ring.sl 2 (k.val + 1))).view.junk) (stored c XA WA hfo hw _)); iexact HO
  · iexists _; iexact HW

/-- The trip that stores block 15: it sends the next block on its way and starts the copy of half 0. -/
theorem tripB (k : Fin k0_t1_loop.trips) (h14 : k.val = 14) (wf)
    (hw : wBufM.view.read (Elt F) wf = wM.view.read (Elt F) WA) :
    iprop((∃ f, xFlightP c XA (Ring.sl 2 (k.val + 1)) (Ring.bk 32 (k.val + 1)) f) ∗ (∃ g, slotP c (Ring.sl 2 (k.val + 2)) g)
      ∗ xCellP c (Ring.sl 2 (k.val + 2)) ∗ homeP c XA (Ring.bk 32 (k.val + 2)) ∗ wBufP c wf ∗ doneP c XA WA 0 (k.val + 1)
      ∗ (∃ y, yHalfP c 0 y) ∗ yCellP c 0 ∗ ∃ W, owes (c : Thread nD τ) 0 W)
      ⊢ wp frame (wpE (defs₀ (F := F)) 𝒱₀ (c : Thread nD τ) none) Set.univ (trip k) (fun _ =>
        iprop((∃ f, xFlightP c XA (Ring.sl 2 (k.val + 2)) (Ring.bk 32 (k.val + 2)) f) ∗ (∃ g, slotP c (Ring.sl 2 (k.val + 1)) g)
          ∗ xCellP c (Ring.sl 2 (k.val + 1)) ∗ homeP c XA (Ring.bk 32 (k.val + 1)) ∗ wBufP c wf ∗ yFlightP c XA WA 0
          ∗ ∃ W, owes (c : Thread nD τ) 0 W)) := by
  have h2 : k.val + 2 < 32 := by omega
  have hc2 := (cond2_iff k).2 h2
  have hc3 : k0_cond3 k = 1#1 := (cond3_iff k).2 (Or.inl h14)
  have hb : (Ring.bk 32 (k.val + 1)).val = k.val + 1 := Ring.bk_val (by omega)
  have hlo : (0 : Fin 2).val * 16 ≤ k.val + 1 := by omega
  have hhi : k.val + 1 < (0 : Fin 2).val * 16 + 16 := by show k.val + 1 < 0 * 16 + 16; omega
  iintro ⟨⟨%f, HF⟩, ⟨%g, Hs⟩, Hc, Hx, Hw, ⟨%fo, %hfo, HO⟩, ⟨%y, HY⟩, HYc, ⟨%W, HW⟩⟩
  dsimp only [trip]
  sl_unfold [k0_t1_body]
  sl_exec
  sl_step
  isplitl [Hc]; · iexists g; iexact Hc
  isplitl [HF_dst]; · iexists _; iexact HF_dst
  iframe HF HF_src Hw
  isplitl [HYc]
  · have hst : RowsDone XA WA 0 16 (storedBuf c XA k fo wf (xSlot (Ring.sl 2 (k.val + 1))).view.junk) := by
      have := stored c XA WA hfo hw (xSlot (Ring.sl 2 (k.val + 1))).view.junk
      have e : k.val + 2 = 16 := by omega
      rw [e] at this; exact this
    iapply (yFlightP_intro c (f := storedBuf c XA k fo wf (xSlot (Ring.sl 2 (k.val + 1))).view.junk) hst y); iexact HYc
  · iexists _; iexact HW

/-- The last trip: nothing is left to fetch; it stores block 31 and starts the copy of half 1. -/
theorem tripC (k : Fin k0_t1_loop.trips) (h30 : k.val = 30) (wf)
    (hw : wBufM.view.read (Elt F) wf = wM.view.read (Elt F) WA) :
    iprop((∃ f, xFlightP c XA (Ring.sl 2 (k.val + 1)) (Ring.bk 32 (k.val + 1)) f) ∗ wBufP c wf ∗ doneP c XA WA 1 (k.val + 1)
      ∗ (∃ y, yHalfP c 1 y) ∗ yCellP c 1 ∗ ∃ W, owes (c : Thread nD τ) 0 W)
      ⊢ wp frame (wpE (defs₀ (F := F)) 𝒱₀ (c : Thread nD τ) none) Set.univ (trip k) (fun _ =>
        iprop((∃ g, slotP c (Ring.sl 2 (k.val + 1)) g)
          ∗ xCellP c (Ring.sl 2 (k.val + 1)) ∗ homeP c XA (Ring.bk 32 (k.val + 1)) ∗ wBufP c wf ∗ yFlightP c XA WA 1
          ∗ ∃ W, owes (c : Thread nD τ) 0 W)) := by
  have hc2 : ¬ k0_cond2 k = 1#1 := fun e => by have := (cond2_iff k).1 e; omega
  have hc3 : k0_cond3 k = 1#1 := (cond3_iff k).2 (Or.inr h30)
  have hb : (Ring.bk 32 (k.val + 1)).val = k.val + 1 := Ring.bk_val (by omega)
  have hlo : (1 : Fin 2).val * 16 ≤ k.val + 1 := by show 1 * 16 ≤ k.val + 1; omega
  have hhi : k.val + 1 < (1 : Fin 2).val * 16 + 16 := by show k.val + 1 < 1 * 16 + 16; omega
  iintro ⟨⟨%f, HF⟩, Hw, ⟨%fo, %hfo, HO⟩, ⟨%y, HY⟩, HYc, ⟨%W, HW⟩⟩
  dsimp only [trip]
  sl_unfold [k0_t1_body]
  sl_exec
  sl_step
  isplitl [HF_dst]; · iexists _; iexact HF_dst
  iframe HF HF_src Hw
  isplitl [HYc]
  · have hst : RowsDone XA WA 1 32 (storedBuf c XA k fo wf (xSlot (Ring.sl 2 (k.val + 1))).view.junk) := by
      have := stored c XA WA hfo hw (xSlot (Ring.sl 2 (k.val + 1))).view.junk
      have e : k.val + 2 = 32 := by omega
      rw [e] at this; exact this
    iapply (yFlightP_intro c (f := storedBuf c XA k fo wf (xSlot (Ring.sl 2 (k.val + 1))).view.junk) hst y); iexact HYc
  · iexists _; iexact HW
end Trip

end Cert.Proof.Hand
-- ==== Proof.Hand.Invariant.lean ====
/-
  The loop's invariant.

  Before the block `p` is stored (trip `p - 1` of the loop), block `p` is in flight to its slot, every other block of `x` is
  home, the other slot and its semaphore are free (`ringAt`); the half of `o_buf` being filled is done below block `p`, and
  a half already full is in flight to the result (`outAt`). `loop_step` is one trip, from the three kinds of trip.
-/
module

public import proofs.«01_k».proof.Proof.Hand.Trip

@[expose] public section

noncomputable section

namespace Cert.Proof.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (XA : XBuf F c) (WA : WBuf F c)

/-- `x`, the slots and their semaphores before block `p` is waited for: block `p` in flight, the rest at rest. -/
def ringBusy (p : ℕ) : sProp 𝕄 :=
  iprop(bigSep (Ring.homeSet 1 p) (homeP c XA) ∗ (∃ f, xFlightP c XA (Ring.sl 2 p) (Ring.bk 32 p) f)
    ∗ (∃ g, slotP c (Ring.sl 2 (p + 1)) g) ∗ xCellP c (Ring.sl 2 (p + 1)))
/-- The same with every block consumed: all at rest. -/
def ringIdle : sProp 𝕄 :=
  iprop(bigSep Finset.univ (homeP c XA) ∗ (∃ g, slotP c 0 g) ∗ (∃ g, slotP c 1 g) ∗ xCellP c 0 ∗ xCellP c 1)
/-- The ring before block `p` is stored. -/
def ringAt (p : ℕ) : sProp 𝕄 := if p < 32 then ringBusy c XA p else ringIdle c XA

/-- The output while half 0 is being filled, blocks below `p` done. -/
def outLow (p : ℕ) : sProp 𝕄 :=
  iprop(doneP c XA WA 0 p ∗ (∃ f, oHalfP c 1 f) ∗ (∃ y, yHalfP c 0 y) ∗ (∃ y, yHalfP c 1 y) ∗ yCellP c 0 ∗ yCellP c 1)
/-- The output while half 1 is being filled: half 0 on its way to the result. -/
def outHigh (p : ℕ) : sProp 𝕄 :=
  iprop(yFlightP c XA WA 0 ∗ doneP c XA WA 1 p ∗ (∃ y, yHalfP c 1 y) ∗ yCellP c 1)
/-- The output with every block stored: both halves on their way. -/
def outFull : sProp 𝕄 := iprop(yFlightP c XA WA 0 ∗ yFlightP c XA WA 1)
/-- The output before block `p` is stored. -/
def outAt (p : ℕ) : sProp 𝕄 := if p < 16 then outLow c XA WA p else if p < 32 then outHigh c XA WA p else outFull c XA WA

/-- All the loop works on before block `p` is stored. -/
def loopAt (wf : Buf (Elt F) (wBufM.view.loc (c : Thread nD τ))) (p : ℕ) : sProp 𝕄 :=
  iprop(ringAt c XA p ∗ outAt c XA WA p ∗ wBufP c wf ∗ ∃ W, owes (c : Thread nD τ) 0 W)

/-- While a block is left, the ring has one in flight. -/
theorem ringAt_busy {p : ℕ} (h : p < 32) : ringAt c XA p = ringBusy c XA p := if_pos h
/-- After the last block the ring is at rest. -/
theorem ringAt_idle : ringAt c XA 32 = ringIdle c XA := if_neg (by omega)
/-- Up to block 15 the first half is being filled. -/
theorem outAt_low {p : ℕ} (h : p < 16) : outAt c XA WA p = outLow c XA WA p := if_pos h
/-- From block 16 on the second half is being filled. -/
theorem outAt_high {p : ℕ} (h : 16 ≤ p) (h' : p < 32) : outAt c XA WA p = outHigh c XA WA p := by
  unfold outAt; rw [if_neg (by omega), if_pos h']
/-- After the last block both halves are on their way. -/
theorem outAt_full : outAt c XA WA 32 = outFull c XA WA := by
  unfold outAt; rw [if_neg (by omega), if_neg (by omega)]

/-- Before a trip that fetches: the block about to go out, apart from the rest. -/
theorem homes_here {p : ℕ} (h : p + 1 < 32) :
    bigSep (Ring.homeSet 1 p) (homeP c XA)
      = iprop(homeP c XA (Ring.bk 32 (p + 1)) ∗ bigSep ((Ring.homeSet 1 p).erase (Ring.bk 32 (p + 1))) (homeP c XA)) := by
  conv_lhs => rw [Ring.homeSet_out 1 p h, bigSep_insert (Ring.bkL_not_mem_erase 1 p)]
  rfl
/-- After it: the block that came back, beside the same rest. -/
theorem homes_next {p : ℕ} (h : p + 1 < 32) :
    bigSep (Ring.homeSet 1 (p + 1)) (homeP c XA)
      = iprop(homeP c XA (Ring.bk 32 p) ∗ bigSep ((Ring.homeSet 1 p).erase (Ring.bk 32 (p + 1))) (homeP c XA)) := by
  conv_lhs => rw [Ring.homeSet_succ 1 p h, bigSep_insert (Ring.bk_not_mem_erase 1 p (by omega) (by decide))]
  rfl
/-- All the blocks home: the last one beside the others. -/
theorem homes_last : bigSep Finset.univ (homeP c XA) = iprop(homeP c XA (Ring.bk 32 31) ∗ bigSep (Ring.homeSet 1 31) (homeP c XA)) := by
  rw [← Ring.homeSet_last 1 32 le_rfl, Ring.homeSet_succ_tail 1 31 (by omega) (by omega),
    bigSep_insert (Ring.bk_not_mem_homeSet 1 31 (by omega) (by decide))]
  rfl

omit [FloatOps F] in
/-- Slots repeat every two blocks. -/
theorem sl_add2 (k : ℕ) : Ring.sl 2 (k + 1 + 1 + 1) = Ring.sl 2 (k + 1) := by rw [show k + 1 + 1 + 1 = (k + 1) + 2 from rfl, Ring.sl_add]

/-- Busy at `k + 1` gives what a fetching trip takes, and what it leaves beside the rest gives busy at `k + 2`. -/
theorem ring_open {k : ℕ} (h : k + 2 < 32) :
    ringAt c XA (k + 1) ⊢ iprop(((∃ f, xFlightP c XA (Ring.sl 2 (k + 1)) (Ring.bk 32 (k + 1)) f) ∗ (∃ g, slotP c (Ring.sl 2 (k + 2)) g)
      ∗ xCellP c (Ring.sl 2 (k + 2)) ∗ homeP c XA (Ring.bk 32 (k + 2)))
      ∗ (((∃ f, xFlightP c XA (Ring.sl 2 (k + 2)) (Ring.bk 32 (k + 2)) f) ∗ (∃ g, slotP c (Ring.sl 2 (k + 1)) g)
          ∗ xCellP c (Ring.sl 2 (k + 1)) ∗ homeP c XA (Ring.bk 32 (k + 1))) -∗ ringAt c XA (k + 2))) := by
  rw [ringAt_busy c XA (by omega), ringAt_busy c XA h]
  unfold ringBusy
  rw [homes_here c XA h, homes_next c XA h, sl_add2]
  iintro ⟨⟨Hx, Hr⟩, HF, Hs, Hc⟩
  isplitl [Hx HF Hs Hc]
  · iframe
  · iintro ⟨HF, Hs, Hc, Hx⟩
    iframe

/-- Half `h` of the output being filled at trip `k`, apart from the rest. -/
theorem out_open {k : ℕ} {h : Fin 2} (hlo : h.val * 16 ≤ k + 1) (hhi : k + 2 < h.val * 16 + 16) :
    outAt c XA WA (k + 1) ⊢ iprop(doneP c XA WA h (k + 1) ∗ (doneP c XA WA h (k + 2) -∗ outAt c XA WA (k + 2))) := by
  fin_cases h
  · have h1 : k + 2 < 16 := by simpa using hhi
    rw [outAt_low c XA WA (by omega), outAt_low c XA WA h1]; unfold outLow
    iintro ⟨HO, HR⟩
    isplitl [HO]; · iexact HO
    iintro HO; isplitl [HO]; · iexact HO
    iexact HR
  · have h0 : 16 ≤ k + 1 := by simpa using hlo
    have h1 : k + 2 < 32 := by simpa using hhi
    rw [outAt_high c XA WA h0 (by omega), outAt_high c XA WA (by omega) h1]; unfold outHigh
    iintro ⟨HY, HO, HR⟩
    isplitl [HO]; · iexact HO
    iintro HO; isplitl [HY]; · iexact HY
    isplitl [HO]; · iexact HO
    iexact HR

/-- At trip 14: half 0 goes out, half 1 begins. -/
theorem out_mid {k : ℕ} (hk : k = 14) : outAt c XA WA (k + 1) ⊢ iprop((doneP c XA WA 0 (k + 1) ∗ (∃ y, yHalfP c 0 y) ∗ yCellP c 0)
    ∗ (yFlightP c XA WA 0 -∗ outAt c XA WA (k + 2))) := by
  subst hk
  rw [outAt_low c XA WA (by omega), outAt_high c XA WA (by omega) (by omega)]; unfold outLow outHigh
  iintro ⟨HO, ⟨%f, HO1⟩, Hy0, Hy1, Hc0, Hc1⟩
  isplitl [HO Hy0 Hc0]
  · isplitl [HO]; · iexact HO
    isplitl [Hy0]; · iexact Hy0
    iexact Hc0
  iintro HY
  isplitl [HY]; · iexact HY
  isplitl [HO1]
  · iapply (doneP_intro c (rowsDone_start XA WA 1 f)); iexact HO1
  isplitl [Hy1]; · iexact Hy1
  iexact Hc1

/-- At trip 30: half 1 goes out. -/
theorem out_last {k : ℕ} (hk : k = 30) : outAt c XA WA (k + 1) ⊢ iprop((doneP c XA WA 1 (k + 1) ∗ (∃ y, yHalfP c 1 y) ∗ yCellP c 1)
    ∗ (yFlightP c XA WA 1 -∗ outAt c XA WA (k + 2))) := by
  subst hk
  rw [outAt_high c XA WA (by omega) (by omega), outAt_full c XA WA]; unfold outHigh outFull
  iintro ⟨HY0, HO, Hy1, Hc1⟩
  isplitl [HO Hy1 Hc1]
  · isplitl [HO]; · iexact HO
    isplitl [Hy1]; · iexact Hy1
    iexact Hc1
  iintro HY
  isplitl [HY0]; · iexact HY0
  iexact HY

/-- The ring at the last trip: nothing is left to fetch. -/
theorem ring_last {k : ℕ} (hk : k = 30) : ringAt c XA (k + 1) ⊢ iprop((∃ f, xFlightP c XA (Ring.sl 2 (k + 1)) (Ring.bk 32 (k + 1)) f)
      ∗ (((∃ g, slotP c (Ring.sl 2 (k + 1)) g) ∗ xCellP c (Ring.sl 2 (k + 1)) ∗ homeP c XA (Ring.bk 32 (k + 1))) -∗ ringAt c XA (k + 2))) := by
  subst hk
  rw [ringAt_busy c XA (by omega), ringAt_idle]
  unfold ringBusy ringIdle
  rw [homes_last, show Ring.sl 2 (30 + 1) = (1 : Fin 2) from rfl, show Ring.sl 2 (30 + 1 + 1) = (0 : Fin 2) from rfl]
  iintro ⟨Hr, HF, Hs, Hc⟩
  isplitl [HF]; · iexact HF
  iintro ⟨Hs1, Hc1, Hx⟩
  isplitl [Hx Hr]
  · isplitl [Hx]; · iexact Hx
    iexact Hr
  isplitl [Hs]; · iexact Hs
  isplitl [Hs1]; · iexact Hs1
  isplitl [Hc]; · iexact Hc
  iexact Hc1

/-- ONE TRIP, whichever its kind. -/
theorem loop_step (wf) (hw : wBufM.view.read (Elt F) wf = wM.view.read (Elt F) WA) (k : Fin k0_t1_loop.trips) :
    loopAt c XA WA wf (k.val + 1)
      ⊢ wp frame (wpE (defs₀ (F := F)) 𝒱₀ (c : Thread nD τ) none) Set.univ (trip k) (fun _ => loopAt c XA WA wf (k.val + 2)) := by
  have hk := trip_lt k
  unfold loopAt
  iintro ⟨HR, HO, Hw, HW⟩
  by_cases h30 : k.val = 30
  · ihave HR' := (ring_last c XA h30) $$ HR
    icases HR' with ⟨HF, HRk⟩
    ihave HO' := (out_last c XA WA h30) $$ HO
    icases HO' with ⟨⟨HO, Hy, Hyc⟩, HOk⟩
    iapply (wp_wand_r Idealize.ShloMosaic.frame (wpE (defs₀ (F := F)) 𝒱₀ (c : Thread nD τ) none) Set.univ)
    isplitl [HF Hw HO Hy Hyc HW]
    · iapply (tripC c XA WA k h30 wf hw)
      isplitl [HF]; · iexact HF
      isplitl [Hw]; · iexact Hw
      isplitl [HO]; · iexact HO
      isplitl [Hy]; · iexact Hy
      isplitl [Hyc]; · iexact Hyc
      iexact HW
    · iintro %_ ⟨Hs, Hc, Hx, Hw, HY, HW⟩
      isplitl [HRk Hs Hc Hx]
      · iapply HRk
        isplitl [Hs]; · iexact Hs
        isplitl [Hc]; · iexact Hc
        iexact Hx
      isplitl [HOk HY]
      · iapply HOk; iexact HY
      isplitl [Hw]; · iexact Hw
      iexact HW
  · have h2 : k.val + 2 < 32 := by omega
    ihave HR' := (ring_open c XA h2) $$ HR
    icases HR' with ⟨⟨HF, Hs, Hc, Hx⟩, HRk⟩
    by_cases h14 : k.val = 14
    · ihave HO' := (out_mid c XA WA h14) $$ HO
      icases HO' with ⟨⟨HO, Hy, Hyc⟩, HOk⟩
      iapply (wp_wand_r Idealize.ShloMosaic.frame (wpE (defs₀ (F := F)) 𝒱₀ (c : Thread nD τ) none) Set.univ)
      isplitl [HF Hs Hc Hx Hw HO Hy Hyc HW]
      · iapply (tripB c XA WA k h14 wf hw)
        isplitl [HF]; · iexact HF
        isplitl [Hs]; · iexact Hs
        isplitl [Hc]; · iexact Hc
        isplitl [Hx]; · iexact Hx
        isplitl [Hw]; · iexact Hw
        isplitl [HO]; · iexact HO
        isplitl [Hy]; · iexact Hy
        isplitl [Hyc]; · iexact Hyc
        iexact HW
      · iintro %_ ⟨HF, Hs, Hc, Hx, Hw, HY, HW⟩
        isplitl [HRk HF Hs Hc Hx]
        · iapply HRk
          isplitl [HF]; · iexact HF
          isplitl [Hs]; · iexact Hs
          isplitl [Hc]; · iexact Hc
          iexact Hx
        isplitl [HOk HY]
        · iapply HOk; iexact HY
        isplitl [Hw]; · iexact Hw
        iexact HW
    · obtain ⟨h, hlo, hhi⟩ : ∃ h : Fin 2, h.val * 16 ≤ k.val + 1 ∧ k.val + 2 < h.val * 16 + 16 := by
        by_cases hl : k.val < 14
        · exact ⟨0, by show 0 * 16 ≤ _; omega, by show _ < 0 * 16 + 16; omega⟩
        · exact ⟨1, by show 1 * 16 ≤ _; omega, by show _ < 1 * 16 + 16; omega⟩
      ihave HO' := (out_open c XA WA hlo hhi) $$ HO
      icases HO' with ⟨HO, HOk⟩
      iapply (wp_wand_r Idealize.ShloMosaic.frame (wpE (defs₀ (F := F)) 𝒱₀ (c : Thread nD τ) none) Set.univ)
      isplitl [HF Hs Hc Hx Hw HO HW]
      · iapply (tripA c XA WA k h h2 (by omega) hlo (by omega) wf hw)
        isplitl [HF]; · iexact HF
        isplitl [Hs]; · iexact Hs
        isplitl [Hc]; · iexact Hc
        isplitl [Hx]; · iexact Hx
        isplitl [Hw]; · iexact Hw
        isplitl [HO]; · iexact HO
        iexact HW
      · iintro %_ ⟨HF, Hs, Hc, Hx, Hw, HO, HW⟩
        isplitl [HRk HF Hs Hc Hx]
        · iapply HRk
          isplitl [HF]; · iexact HF
          isplitl [Hs]; · iexact Hs
          isplitl [Hc]; · iexact Hc
          iexact Hx
        isplitl [HOk HO]
        · iapply HOk; iexact HO
        isplitl [Hw]; · iexact Hw
        iexact HW

end Cert.Proof.Hand

end
-- ==== Proof.Hand.Body.lean ====
/-
  The whole body: the peeled first block, the loop by its invariant, and the two waits at the end.
-/
module

public import proofs.«01_k».proof.Proof.Hand.Invariant

@[expose] public section

noncomputable section

namespace Cert.Proof.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (XA : XBuf F c) (WA : WBuf F c)

/-- `W` held, at its contents. -/
abbrev wHomeP : sProp 𝕄 := wM.view.loc (c : Thread nD τ) ↦[wM.view.set]{fullShare} WA
/-- The semaphore of `W`'s copy at zero. -/
abbrev wCellP : sProp 𝕄 := semVal ((c : Thread nD τ), SemLoc.dma wSem.sem) 0

/-- What the copy of `W` leaves in `w_buf` over `f`. -/
abbrev wLanded (f : Buf (Elt F) (wBufM.view.loc (c : Thread nD τ))) : Buf (Elt F) (wBufM.view.loc (c : Thread nD τ)) :=
  wBufM.view.writes (Elt F) f [⟨Rect.whole S64x4096, ReadAs.same.apply (wM.view.read (Elt F) WA)⟩]

/-- The body up to the first store. -/
abbrev part1 : Prog (TpuEff nD τ sig (Elt F) Λ₀ .tc) PUnit :=
  k0_part1 (F := F) xM (Memref.isWhole_whole _) wM (Memref.isWhole_whole _) yM (Memref.isWhole_whole _) xBufM (Memref.isWhole_whole _)
    wBufM (Memref.isWhole_whole _) oBufM (Memref.isWhole_whole _) cc0_scratch3 cc0_scratch4 cc0_scratch5

/-- The first block's slot lies in `x_buf`. -/
theorem slotInb0 : ∀ a, k0_off3 a + S1x1024x4096.size a ≤ S2x1024x4096.size a := by decide
/-- The first block's rows lie in `o_buf`. -/
theorem rowInb0 : ∀ a, (![0, 0] : Fin 2 → Nat) a + S1024x64.size a ≤ S32768x64.size a := by decide

/-- What `o_buf` holds after the peeled store over `fo`. -/
abbrev storedBuf0 (fo : OBuf F c) (wf : Buf (Elt F) (wBufM.view.loc (c : Thread nD τ)))
    (f : Buf (Elt F) ((xSlot 0).view.loc (c : Thread nD τ))) : OBuf F c :=
  (oBufM.access (Rect.unit (s := S32768x64) ![0, 0] S1024x64.size rowInb0)).write (Elt F) fo
    (k0_pay2 (xBufM.view.readAt (Elt F) (Rect.unit (s := S2x1024x4096) k0_off3 S1x1024x4096.size slotInb0).toLoadRect (landed c XA 0 0 f))
      (wBufM.view.readAt (Elt F) (Rect.unit (s := S64x4096) ![0, 0] S64x4096.size wInb).toLoadRect wf)) Finset.univ

/-- The peeled store: block 0 done. -/
theorem stored0 (fo : OBuf F c) {wf : Buf (Elt F) (wBufM.view.loc (c : Thread nD τ))}
    (hw : wBufM.view.read (Elt F) wf = wM.view.read (Elt F) WA) (f : Buf (Elt F) ((xSlot 0).view.loc (c : Thread nD τ))) :
    RowsDone XA WA 0 1 (storedBuf0 c XA fo wf f) := by
  unfold storedBuf0
  rw [show (k0_pay2 : FVec F S1x1024x4096 .f32 → _ → _) = k0_pay1 from rfl,
    pay_eq XA WA (s := 0) (b := 0) (off := k0_off3) (by decide) slotInb0 _ (View.read_writes_whole _ _ _) wf hw wInb]
  exact RowsDone.store XA WA (h := 0) (b := 0) (f := fo) (rowsDone_start XA WA 0 fo) (off := ![0, 0]) (by decide) rowInb0

/-- THE PROLOGUE: `W` fetched whole, block 0 fetched and stored, block 1 on its way. -/
theorem part1Run (fw f0 f1 fo) :
    iprop(homeP c XA 0 ∗ homeP c XA 1 ∗ wHomeP c WA ∗ wBufP c fw ∗ slotP c 0 f0 ∗ slotP c 1 f1
      ∗ xCellP c 0 ∗ xCellP c 1 ∗ wCellP c ∗ oHalfP c 0 fo ∗ ∃ W, owes (c : Thread nD τ) 0 W)
      ⊢ wp frame (wpE (defs₀ (F := F)) 𝒱₀ (c : Thread nD τ) none) Set.univ (part1 (F := F)) (fun _ =>
        iprop((homeP c XA 0 ∗ (∃ f, xFlightP c XA 1 1 f) ∗ (∃ g, slotP c 0 g) ∗ xCellP c 0)
          ∗ (∃ wf, ⌜wBufM.view.read (Elt F) wf = wM.view.read (Elt F) WA⌝ ∗ wBufP c wf) ∗ doneP c XA WA 0 1
          ∗ (wHomeP c WA ∗ wCellP c) ∗ ∃ W, owes (c : Thread nD τ) 0 W)) := by
  iintro ⟨Hx0, Hx1, HWh, Hw, Hs0, Hs1, Hc0, Hc1, HWc, HO, ⟨%W, HW⟩⟩
  dsimp only [part1]
  sl_unfold [k0_part1]
  sl_exec
  sl_step
  isplitl [Hx0 Hc1 Hs0 Hc0]
  · isplitl [Hx0]; · iexact Hx0
    isplitl [Hc1]; · iexists f1; iexact Hc1
    isplitl [Hs0]; · iexists _; iexact Hs0
    iexact Hc0
  isplitl [Hw]
  · iexists wLanded c WA fw
    isplitr [Hw]
    · ipureintro; exact View.read_writes_whole _ _ _
    · iexact Hw
  isplitl [HO]
  · iapply (doneP_intro c (f := storedBuf0 c XA fo (wLanded c WA wBufM.view.junk) (xSlot 0).view.junk) (stored0 c XA WA fo (View.read_writes_whole _ _ _) _)); iexact HO
  isplitl [HWh HWc]
  · isplitl [HWh]; · iexact HWh
    iexact HWc
  iexists _; iexact HW

/-- The whole body on the launch's buffers. -/
abbrev bodyG : Prog (TpuEff nD τ sig (Elt F) Λ₀ .tc) PUnit :=
  cc0__matmul_kernel (F := F) xM (Memref.isWhole_whole _) wM (Memref.isWhole_whole _) yM (Memref.isWhole_whole _) xBufM (Memref.isWhole_whole _)
    wBufM (Memref.isWhole_whole _) oBufM (Memref.isWhole_whole _) cc0_scratch3 cc0_scratch4 cc0_scratch5

/-- The loop and the two waits after it. -/
abbrev rest : Prog (TpuEff nD τ sig (Elt F) Λ₀ .tc) PUnit :=
  Scf.Loop.for k0_t1_loop k0_t1_ok ⟨⟩ (k0_t1_body xM (Memref.isWhole_whole _) wM (Memref.isWhole_whole _) yM (Memref.isWhole_whole _) xBufM (Memref.isWhole_whole _)
    wBufM (Memref.isWhole_whole _) oBufM (Memref.isWhole_whole _) cc0_scratch3 cc0_scratch4 cc0_scratch5) >>= fun _ =>
  Prog.lift (.waitDma2 ((cc0_scratch5.slice (Rect.unit (s := S2) ![0] S1.size inb_S2_S1_0)).squeeze S_ squeezes_S1_S_).sem
    (oBufM.slice (Rect.unit (s := S32768x64) ![0, 0] S16384x64.size inb_S32768x64_S16384x64_0_0) (fun _ => rfl))
    (yM.slice (Rect.unit (s := S32768x64) ![0, 0] S16384x64.size inb_S32768x64_S16384x64_0_0) (fun _ => rfl)) (View.wordExact_bits rfl) (View.wordExact_bits rfl)) >>= fun _ =>
  Prog.lift (.waitDma2 ((cc0_scratch5.slice (Rect.unit (s := S2) ![1] S1.size inb_S2_S1_1)).squeeze S_ squeezes_S1_S_).sem
    (oBufM.slice (Rect.unit (s := S32768x64) ![16384, 0] S16384x64.size inb_S32768x64_S16384x64_16384_0) (fun _ => rfl))
    (yM.slice (Rect.unit (s := S32768x64) ![16384, 0] S16384x64.size inb_S32768x64_S16384x64_16384_0) (fun _ => rfl)) (View.wordExact_bits rfl) (View.wordExact_bits rfl)) >>= fun _ =>
  pure ⟨⟩

set_option maxRecDepth 65536 in
/-- The body is the first part and then the rest: the peeled block ends no half. -/
theorem bodyG_eq : (bodyG (F := F)) = (part1 (F := F) >>= fun _ => rest (F := F)) := by
  show cc0__matmul_kernel (F := F) _ _ _ _ _ _ _ _ _ _ _ _ _ _ _ = _
  rw [cc0__matmul_kernel_eq_skeleton]
  unfold cc0__matmul_kernel_skel
  rw [dif_neg cond1_false]
  rfl

/-- A half of the result, done. -/
abbrev yDoneP (h : Fin 2) : sProp 𝕄 :=
  iprop(∃ f y, ⌜RowsDone XA WA h (h.val * 16 + 16) f⌝ ∗ yHalfP c h (copied c h f y))

/-- The invariant after the last trip. -/
theorem loop_exit (wf) : loopAt c XA WA wf (Scf.trips k0_t1_loop.lb k0_t1_loop.ub k0_t1_loop.st + 1)
    ⊢ iprop(ringIdle c XA ∗ (yFlightP c XA WA 0 ∗ yFlightP c XA WA 1) ∗ wBufP c wf ∗ ∃ W, owes (c : Thread nD τ) 0 W) := by
  rw [show Scf.trips k0_t1_loop.lb k0_t1_loop.ub k0_t1_loop.st + 1 = 32 from congrArg (· + 1) trips_eq]
  unfold loopAt
  rw [outAt_full, ringAt_idle]
  exact .rfl

/-- THE LOOP AND THE WAITS. -/
theorem restRun (wf) (hw : wBufM.view.read (Elt F) wf = wM.view.read (Elt F) WA) :
    loopAt c XA WA wf 1
      ⊢ wp frame (wpE (defs₀ (F := F)) 𝒱₀ (c : Thread nD τ) none) Set.univ (rest (F := F)) (fun _ =>
        iprop(ringIdle c XA ∗ wBufP c wf ∗ (yDoneP c XA WA 0 ∗ yDoneP c XA WA 1) ∗ ((∃ f, oHalfP c 0 f) ∗ ∃ f, oHalfP c 1 f)
          ∗ (yCellP c 0 ∗ yCellP c 1) ∗ ∃ W, owes (c : Thread nD τ) 0 W)) := by
  iintro H
  iapply (Scf.wp_for_bind Idealize.ShloMosaic.frame (wpE (defs₀ (F := F)) 𝒱₀ (c : Thread nD τ) none) Set.univ k0_t1_loop.lb k0_t1_loop.ub k0_t1_loop.st
    k0_t1_ok ⟨⟩ _ (fun k _ => loopAt c XA WA wf (k + 1)) (fun k _ => loop_step c XA WA wf hw k)) $$ [H]
  · iexact H
  iintro %_ H
  ihave H' := (loop_exit c XA WA wf) $$ H
  icases H' with ⟨HR, ⟨⟨%f0, %y0, %h0, HF0⟩, ⟨%f1, %y1, %h1, HF1⟩⟩, Hw, ⟨%W, HW⟩⟩
  sl_exec
  sl_step
  isplitl [HR]; · iexact HR
  isplitl [Hw]; · iexact Hw
  isplitl [HF0_dst HF1_dst]
  · isplitl [HF0_dst]
    · iexists f0, y0
      isplitr [HF0_dst]
      · ipureintro; exact h0
      · iexact HF0_dst
    · iexists f1, y1
      isplitr [HF1_dst]
      · ipureintro; exact h1
      · iexact HF1_dst
  isplitl [HF0_src HF1_src]
  · isplitl [HF0_src]
    · iexists f0; iexact HF0_src
    · iexists f1; iexact HF1_src
  isplitl [HF0 HF1]
  · isplitl [HF0]; · iexact HF0
    iexact HF1
  iexists _; iexact HW

/-- Every block home: blocks 0 and 1 apart from the rest. -/
theorem homes_start : bigSep Finset.univ (homeP c XA)
    = iprop(homeP c XA 0 ∗ homeP c XA 1 ∗ bigSep ((Ring.homeSet 1 0).erase (Ring.bk 32 (0 + 1))) (homeP c XA)) := by
  have e : (Finset.univ : Finset (Fin 32)) = insert 0 (Ring.homeSet 1 0) := by decide
  rw [e, bigSep_insert (by decide), homes_here c XA (p := 0) (by omega)]
  rfl

/-- What the prologue leaves is the invariant at the loop's start. -/
theorem loop_entry (wf) :
    iprop(((homeP c XA 0 ∗ (∃ f, xFlightP c XA 1 1 f) ∗ (∃ g, slotP c 0 g) ∗ xCellP c 0)
        ∗ bigSep ((Ring.homeSet 1 0).erase (Ring.bk 32 (0 + 1))) (homeP c XA))
      ∗ (doneP c XA WA 0 1 ∗ (∃ f, oHalfP c 1 f) ∗ (∃ y, yHalfP c 0 y) ∗ (∃ y, yHalfP c 1 y) ∗ yCellP c 0 ∗ yCellP c 1)
      ∗ wBufP c wf ∗ ∃ W, owes (c : Thread nD τ) 0 W) ⊢ loopAt c XA WA wf 1 := by
  unfold loopAt
  rw [ringAt_busy c XA (by omega), outAt_low c XA WA (by omega)]
  unfold ringBusy outLow
  rw [homes_next c XA (p := 0) (by omega), show Ring.bk 32 0 = 0 from rfl, show Ring.sl 2 1 = 1 from rfl, show Ring.bk 32 1 = 1 from rfl,
    show Ring.sl 2 (1 + 1) = 0 from rfl]
  iintro ⟨⟨⟨Hx, HF, Hs, Hc⟩, Hr⟩, HO, Hw⟩
  isplitl [Hx HF Hs Hc Hr]
  · isplitl [Hx Hr]
    · isplitl [Hx]; · iexact Hx
      iexact Hr
    isplitl [HF]; · iexact HF
    isplitl [Hs]; · iexact Hs
    iexact Hc
  isplitl [HO]; · iexact HO
  iexact Hw

/-- What the body's buffers, operands and semaphores hold beside the result: the same before and after. -/
def atRest : sProp 𝕄 :=
  iprop((ringIdle c XA ∗ (wHomeP c WA ∗ wCellP c) ∗ (∃ f, wBufP c f)) ∗ ((∃ f, oHalfP c 0 f) ∗ ∃ f, oHalfP c 1 f) ∗ (yCellP c 0 ∗ yCellP c 1))

/-- THE BODY: from anything in the result to the two halves done. -/
theorem bodyRun :
    iprop(atRest c XA WA ∗ ((∃ y, yHalfP c 0 y) ∗ ∃ y, yHalfP c 1 y) ∗ ∃ W, owes (c : Thread nD τ) 0 W)
      ⊢ wp frame (wpE (defs₀ (F := F)) 𝒱₀ (c : Thread nD τ) none) Set.univ (bodyG (F := F)) (fun _ =>
        iprop(atRest c XA WA ∗ (yDoneP c XA WA 0 ∗ yDoneP c XA WA 1) ∗ ∃ W, owes (c : Thread nD τ) 0 W)) := by
  rw [bodyG_eq, wp_bind]
  unfold atRest
  conv_lhs => unfold ringIdle
  rw [homes_start]
  iintro ⟨⟨⟨⟨⟨Hx0, Hx1, Hxr⟩, ⟨%g0, Hs0⟩, ⟨%g1, Hs1⟩, Hc0, Hc1⟩, ⟨HWh, HWc⟩, ⟨%fw, Hw⟩⟩, ⟨⟨%fo, HO0⟩, HO1⟩, ⟨Hyc0, Hyc1⟩⟩, ⟨Hy0, Hy1⟩, HW⟩
  iapply (wp_wand_r Idealize.ShloMosaic.frame (wpE (defs₀ (F := F)) 𝒱₀ (c : Thread nD τ) none) Set.univ)
  isplitl [Hx0 Hx1 Hs0 Hs1 Hc0 Hc1 HWh HWc Hw HO0 HW]
  · iapply (part1Run c XA WA fw g0 g1 fo)
    isplitl [Hx0]; · iexact Hx0
    isplitl [Hx1]; · iexact Hx1
    isplitl [HWh]; · iexact HWh
    isplitl [Hw]; · iexact Hw
    isplitl [Hs0]; · iexact Hs0
    isplitl [Hs1]; · iexact Hs1
    isplitl [Hc0]; · iexact Hc0
    isplitl [Hc1]; · iexact Hc1
    isplitl [HWc]; · iexact HWc
    isplitl [HO0]; · iexact HO0
    iexact HW
  iintro %_ ⟨HR, ⟨%wf, %hwf, Hw⟩, HO0, HWr, HW⟩
  iapply (wp_wand_r Idealize.ShloMosaic.frame (wpE (defs₀ (F := F)) 𝒱₀ (c : Thread nD τ) none) Set.univ)
  isplitl [HR Hxr Hw HO0 HO1 Hy0 Hy1 Hyc0 Hyc1 HW]
  · iapply (restRun c XA WA wf hwf)
    iapply (loop_entry c XA WA wf)
    isplitl [HR Hxr]
    · isplitl [HR]; · iexact HR
      iexact Hxr
    isplitl [HO0 HO1 Hy0 Hy1 Hyc0 Hyc1]
    · isplitl [HO0]; · iexact HO0
      isplitl [HO1]; · iexact HO1
      isplitl [Hy0]; · iexact Hy0
      isplitl [Hy1]; · iexact Hy1
      isplitl [Hyc0]; · iexact Hyc0
      iexact Hyc1
    isplitl [Hw]; · iexact Hw
    iexact HW
  iintro %_ ⟨HR, Hw, HY, HO, Hyc, HW⟩
  isplitl [HR Hw HO Hyc HWr]
  · isplitl [HR HWr Hw]
    · isplitl [HR]; · iexact HR
      isplitl [HWr]; · iexact HWr
      iexists wf; iexact Hw
    isplitl [HO]; · iexact HO
    iexact Hyc
  isplitl [HY]; · iexact HY
  iexact HW

end Cert.Proof.Hand

end
-- ==== Proof.Hand.Pieces.lean ====
/-
  The buffers in pieces: `x` as its 32 blocks, `x_buf` as its two slots, `o_buf` and the result as their halves. The pieces
  of one buffer are told apart by the row an element lies in, so they are disjoint and cover it.
-/
module

public import proofs.«01_k».proof.Proof.Hand.Body
public import Idealize.ShloMosaic.Lib.ViewIndex

@[expose] public section

noncomputable section

namespace Cert.Proof.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Equal assertions entail each other. -/
theorem entails_of_eq {P Q : sProp 𝕄} (e : P = Q) : P ⊢ Q := e ▸ .rfl

/-! ## The pieces' element sets -/

/-- The elements of block `b` of `x`. -/
abbrev xSet (b : Fin 32) : Finset S32768x4096.Idx := (Rect.unit (s := S32768x4096) (blkOff b) S1024x4096.size (blkOff_inb b)).set
/-- The elements of slot `s`. -/
abbrev slotSet (s : Fin 2) : Finset S2x1024x4096.Idx := (Rect.unit (s := S2x1024x4096) (slotOff s) S1x1024x4096.size (slotOff_inb s)).set
/-- The elements of half `h` of the output. -/
abbrev halfSet (h : Fin 2) : Finset S32768x64.Idx := (Rect.unit (s := S32768x64) (halfOff h) S16384x64.size (halfOff_inb h)).set

/-- The pieces the kernel names are these sets. -/
theorem xBlk_set (b : Fin 32) : (xBlk b).view.set = xSet b := View.set_slice_whole _ _
/-- Slots likewise, -/
theorem xSlot_set (s : Fin 2) : (xSlot s).view.set = slotSet s := (View.set_reshape _ _).trans (View.set_slice_whole _ _)
/-- `o_buf`'s halves likewise, -/
theorem oHalf_set (h : Fin 2) : (oHalf h).view.set = halfSet h := View.set_slice_whole _ _
/-- and the result's. -/
theorem yHalf_set (h : Fin 2) : (yHalf h).view.set = halfSet h := View.set_slice_whole _ _

/-- An element is in the block its row divided by 1024 says, -/
theorem mem_xSet (b : Fin 32) (y : S32768x4096.Idx) : y ∈ xSet b ↔ (y 0).val / 1024 = b.val := by
  rw [Rect.mem_set_unit]
  have h1 : (y 1).val < 4096 := (y 1).isLt
  constructor
  · intro H; have a0 : b.val * 1024 ≤ (y 0).val ∧ (y 0).val < b.val * 1024 + 1024 := H 0; omega
  · intro H i; fin_cases i
    · show b.val * 1024 ≤ (y 0).val ∧ (y 0).val < b.val * 1024 + 1024; omega
    · show 0 ≤ (y 1).val ∧ (y 1).val < 0 + 4096; omega
/-- in the slot its first coordinate says, -/
theorem mem_slotSet (s : Fin 2) (y : S2x1024x4096.Idx) : y ∈ slotSet s ↔ (y 0).val = s.val := by
  rw [Rect.mem_set_unit]
  have h1 : (y 1).val < 1024 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 4096; omega
/-- in the half its row divided by 16384 says. -/
theorem mem_halfSet (h : Fin 2) (y : S32768x64.Idx) : y ∈ halfSet h ↔ (y 0).val / 16384 = h.val := by
  rw [Rect.mem_set_unit]
  have h1 : (y 1).val < 64 := (y 1).isLt
  constructor
  · intro H; have a0 : h.val * 16384 ≤ (y 0).val ∧ (y 0).val < h.val * 16384 + 16384 := H 0; omega
  · intro H i; fin_cases i
    · show h.val * 16384 ≤ (y 0).val ∧ (y 0).val < h.val * 16384 + 16384; omega
    · show 0 ≤ (y 1).val ∧ (y 1).val < 0 + 64; omega

/-- A family of sets whose members are told by a number is pairwise disjoint. -/
theorem disjoint_of_tag {α : Type} [DecidableEq α] {n : ℕ} {S : Fin n → Finset α} (tag : α → ℕ) (hS : ∀ b y, y ∈ S b ↔ tag y = b.val) :
    ∀ b b' : Fin n, b ≠ b' → Disjoint (S b) (S b') := fun b b' hne =>
  Finset.disjoint_left.2 fun y hy hy' => hne (Fin.ext (((hS b y).1 hy).symm.trans ((hS b' y).1 hy')))
/-- It covers everything when every tag is in range. -/
theorem cover_of_tag {α : Type} [DecidableEq α] [Fintype α] {n : ℕ} {S : Fin n → Finset α} (tag : α → ℕ) (hS : ∀ b y, y ∈ S b ↔ tag y = b.val)
    (hr : ∀ y, tag y < n) : (Finset.univ : Finset (Fin n)).biUnion S = Finset.univ := by
  ext y; simp only [Finset.mem_biUnion, Finset.mem_univ, true_and, iff_true]; exact ⟨⟨tag y, hr y⟩, (hS _ y).2 rfl⟩

/-- Blocks are disjoint -/
theorem xSet_disjoint : ∀ b b' : Fin 32, b ≠ b' → Disjoint (xSet b) (xSet b') := disjoint_of_tag (fun y : S32768x4096.Idx => (y 0).val / 1024) mem_xSet
/-- and cover `x`, -/
theorem xSet_cover : (Finset.univ : Finset (Fin 32)).biUnion xSet = Finset.univ :=
  cover_of_tag (fun y : S32768x4096.Idx => (y 0).val / 1024) mem_xSet fun y => by have : (y 0).val < 32768 := (y 0).isLt; show (y 0).val / 1024 < 32; omega
/-- slots are disjoint -/
theorem slotSet_disjoint : ∀ s s' : Fin 2, s ≠ s' → Disjoint (slotSet s) (slotSet s') := disjoint_of_tag (fun y : S2x1024x4096.Idx => (y 0).val) mem_slotSet
/-- and cover `x_buf`, -/
theorem slotSet_cover : (Finset.univ : Finset (Fin 2)).biUnion slotSet = Finset.univ :=
  cover_of_tag (fun y : S2x1024x4096.Idx => (y 0).val) mem_slotSet fun y => (y 0).isLt
/-- halves are disjoint -/
theorem halfSet_disjoint : ∀ h h' : Fin 2, h ≠ h' → Disjoint (halfSet h) (halfSet h') := disjoint_of_tag (fun y : S32768x64.Idx => (y 0).val / 16384) mem_halfSet
/-- and cover the output. -/
theorem halfSet_cover : (Finset.univ : Finset (Fin 2)).biUnion halfSet = Finset.univ :=
  cover_of_tag (fun y : S32768x64.Idx => (y 0).val / 16384) mem_halfSet fun y => by have : (y 0).val < 32768 := (y 0).isLt; show (y 0).val / 16384 < 2; omega

/-- A separating product over two indices, written out. -/
theorem bigSep_two (Φ : Fin 2 → sProp 𝕄) : bigSep Finset.univ Φ = iprop(Φ 0 ∗ Φ 1) :=
  bigSep_univ_eq_bigSepL [(0 : Fin 2), (1 : Fin 2)] (by decide) (by decide) Φ

section
variable (c : Dev nD)

/-! ## A buffer whole and in pieces -/

/-- `x` whole is its blocks home. -/
theorem x_eq (XA : XBuf F c) : (((c : Thread nD τ).loc main_arg0) ↦{fullShare} XA : sProp 𝕄) = bigSep Finset.univ (homeP c XA) := by
  rw [Ring.pointsTo_blocks (ℓ := (c : Thread nD τ).loc main_arg0) xSet xSet_disjoint xSet_cover]
  exact bigSep_congr fun b _ => by rw [← xBlk_set]; rfl

/-- A slot held, by its element set; -/
theorem slotP_eq (s : Fin 2) (f) : slotP c s f = (((c : Thread nD τ).loc cc0_scratch0) ↦[slotSet s]{fullShare} f : sProp 𝕄) :=
  congrArg (fun S => (_ ↦[S]{fullShare} f : sProp 𝕄)) (xSlot_set s)
/-- a half of `o_buf`; -/
theorem oHalfP_eq (h : Fin 2) (f) : oHalfP c h f = (((c : Thread nD τ).loc cc0_scratch2) ↦[halfSet h]{fullShare} f : sProp 𝕄) :=
  congrArg (fun S => (_ ↦[S]{fullShare} f : sProp 𝕄)) (oHalf_set h)
/-- a half of the result. -/
theorem yHalfP_eq (h : Fin 2) (f) : yHalfP c h f = (((c : Thread nD τ).loc main_v0) ↦[halfSet h]{fullShare} f : sProp 𝕄) :=
  congrArg (fun S => (_ ↦[S]{fullShare} f : sProp 𝕄)) (yHalf_set h)

/-- `x_buf` whole gives its two slots, -/
theorem slots_split :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (entails_of_eq ((Ring.pointsTo_blocks (ℓ := (c : Thread nD τ).loc cc0_scratch0) slotSet slotSet_disjoint slotSet_cover f).trans (bigSep_two _))) $$ H
  icases H2 with ⟨H0, H1⟩
  isplitl [H0]
  · iexists f; iapply (entails_of_eq (slotP_eq c 0 f).symm); iexact H0
  · iexists f; iapply (entails_of_eq (slotP_eq c 1 f).symm); iexact H1
/-- and back. -/
theorem slots_join :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) slotSet slotSet_disjoint slotSet_cover f0)
  irw [bigSep_two]
  isplitl [H0]
  · iexists f0; iapply (entails_of_eq (slotP_eq c 0 f0)); iexact H0
  · iexists f1; iapply (entails_of_eq (slotP_eq c 1 f1)); iexact H1

/-- `o_buf` whole gives its halves, -/
theorem oHalves_split :
    iprop(∃ f : Buf (Elt F) ((c : Thread nD τ).loc cc0_scratch2), ((c : Thread nD τ).loc cc0_scratch2) ↦{fullShare} f)
      ⊢ (iprop((∃ f, oHalfP c 0 f) ∗ ∃ f, oHalfP c 1 f) : sProp 𝕄) := by
  iintro ⟨%f, H⟩
  ihave H2 := (entails_of_eq ((Ring.pointsTo_blocks (ℓ := (c : Thread nD τ).loc cc0_scratch2) halfSet halfSet_disjoint halfSet_cover f).trans (bigSep_two _))) $$ H
  icases H2 with ⟨H0, H1⟩
  isplitl [H0]
  · iexists f; iapply (entails_of_eq (oHalfP_eq c 0 f).symm); iexact H0
  · iexists f; iapply (entails_of_eq (oHalfP_eq c 1 f).symm); iexact H1
/-- and back. -/
theorem oHalves_join :
    iprop((∃ f, oHalfP c 0 f) ∗ ∃ f, oHalfP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) halfSet halfSet_disjoint halfSet_cover f0)
  irw [bigSep_two]
  isplitl [H0]
  · iexists f0; iapply (entails_of_eq (oHalfP_eq c 0 f0)); iexact H0
  · iexists f1; iapply (entails_of_eq (oHalfP_eq c 1 f1)); iexact H1

/-- The result whole is its halves. -/
theorem y_eq (f : Buf (Elt F) ((c : Thread nD τ).loc main_v0)) :
    (((c : Thread nD τ).loc main_v0) ↦{fullShare} f : sProp 𝕄) = iprop(yHalfP c 0 f ∗ yHalfP c 1 f) := by
  rw [Ring.pointsTo_blocks (ℓ := (c : Thread nD τ).loc main_v0) halfSet halfSet_disjoint halfSet_cover, bigSep_two]
  exact (congrArg₂ (fun P Q : sProp 𝕄 => iprop(P ∗ Q)) (yHalfP_eq c 0 f) (yHalfP_eq c 1 f)).symm

/-! ## A half copied out holds the output -/

variable (XA : XBuf F c) (WA : WBuf F c)

/-- Two buffers that the half of the one and the half of the other read alike agree on the half's elements. -/
theorem eq_of_halves {h : Fin 2} {g f : OBuf F c} (e : (yHalf h).view.read (Elt F) g = (oHalf h).view.read (Elt F) f) :
    ∀ i ∈ (yHalf h).view.set, g i = f i := by
  intro i hi
  obtain ⟨j, rfl⟩ := View.exists_of_mem_set_slice hi
  exact congrFun e j

/-- What the copy of a half that is done leaves in the result is the output, on that half. -/
theorem copied_eq {h : Fin 2} {f : OBuf F c} (hf : RowsDone XA WA h (h.val * 16 + 16) f) (y) :
    ∀ i ∈ (yHalf h).view.set, copied c h f y i = outVal XA WA i := by
  intro (i : S32768x64.Idx) hi
  have hr : (i 0).val / 16384 = h.val := (mem_halfSet h i).1 (yHalf_set h ▸ hi)
  have hv : f i = outVal XA WA i := hf i (by omega) (by omega)
  have e : (yHalf h).view.read (Elt F) (copied c h f y) = (oHalf h).view.read (Elt F) f := by
    unfold copied
    rw [View.read_writes_whole]
  exact (eq_of_halves c e i hi).trans hv

/-- so the half holds the output. -/
theorem yDone_out (h : Fin 2) : yDoneP c XA WA h ⊢ yHalfP c h (outVal XA WA) := by
  iintro ⟨%f, %y, %hf, H⟩
  iapply (entails_of_eq (pointsTo_congr (copied_eq c XA WA hf y)))
  iexact H

end

end Cert.Proof.Hand

end
-- ==== Proof.Hand.Launch.lean ====
/-
  The launch: the five transfer semaphores, the buffers handed to the kernel and taken back, and the run of the whole
  program, at any float values — the arguments unchanged, the result the product, every semaphore at zero.
-/
module

public import proofs.«01_k».proof.Proof.Hand.Pieces
public import Idealize.ShloMosaic.Lib.Pipeline.FrameValue

@[expose] public section

noncomputable section

namespace Cert.Proof.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-- The buffers at launch. -/
abbrev launched (c : Dev nD) (b : Ref sig .tc) : Buf (Elt F) ((c : Thread nD τ).loc b) := m ((c : Thread nD τ).loc b)
/-- `x` at launch. -/
abbrev xAt (c : Dev nD) : XBuf F c := m ((c : Thread nD τ).loc main_arg0)
/-- `W` at launch. -/
abbrev wAt (c : Dev nD) : WBuf F c := m ((c : Thread nD τ).loc main_arg1)
/-- The result. -/
abbrev yAt (c : Dev nD) : Buf (Elt F) ((c : Thread nD τ).loc main_v0) := outVal (xAt m c) (wAt m c)
/-- Every buffer when the kernel is done. -/
def final (c : Dev nD) : (b : Ref sig .tc) → Buf (Elt F) ((c : Thread nD τ).loc b) := Function.update (launched m c) main_v0 (yAt m c)

/-! ## The kernel's own semaphores -/

/-- The two of `x`'s slots, `W`'s, the two of the result's halves. -/
abbrev osem : Fin 5 → SemLoc sig
  | 0 => .dma (xSem 0).sem
  | 1 => .dma (xSem 1).sem
  | 2 => .dma wSem.sem
  | 3 => .dma (ySem 0).sem
  | 4 => .dma (ySem 1).sem
/-- They are distinct, scoped, and none of a window's. -/
theorem ownSemFacts : Pipeline.OwnSemFacts cfg0.spec osem := by decide

/-- The five at zero, one by one. -/
theorem ownSems0_eq (c : Dev nD) : (Pipeline.ownSems0 osem c : sProp 𝕄) = iprop(xCellP c 0 ∗ xCellP c 1 ∗ wCellP c ∗ yCellP c 0 ∗ yCellP c 1) := by
  unfold Pipeline.ownSems0
  rw [bigSep_univ_eq_bigSepL [(0 : Fin 5), 1, 2, 3, 4] (by decide) (by decide)]
  rfl

/-! ## What is handed over -/

/-- The operands read. -/
abbrev readRefs : Finset (Ref sig .tc) := {main_arg0, main_arg1}
/-- The operand written. -/
abbrev writtenRefs : Finset (Ref sig .tc) := {main_v0}

/-- The operands read, one by one. -/
theorem reads_eq (c : Dev nD) : (bigSep readRefs fun b => (((c : Thread nD τ).loc b) ↦{fullShare} launched m c b : sProp 𝕄))
    = iprop((((c : Thread nD τ).loc main_arg0) ↦{fullShare} xAt m c) ∗ (((c : Thread nD τ).loc main_arg1) ↦{fullShare} wAt m c)) := by
  rw [BI.bigSep_eq_bigSepL_of_eq [main_arg0, main_arg1] (by decide) (by decide)]
  rfl
/-- The operand written, as launched. -/
theorem written_start (c : Dev nD) : (Pipeline.routed writtenRefs c (launched m c) : sProp 𝕄)
    = (((c : Thread nD τ).loc main_v0) ↦{fullShare} launched m c main_v0) := by
  unfold Pipeline.routed
  rw [BI.bigSep_eq_bigSepL_of_eq [main_v0] (by decide) (by decide)]
  rfl
/-- The operand written, when the kernel is done. -/
theorem written_end (c : Dev nD) : (Pipeline.routed writtenRefs c (final m c) : sProp 𝕄)
    = (((c : Thread nD τ).loc main_v0) ↦{fullShare} yAt m c) := by
  unfold Pipeline.routed final
  rw [BI.bigSep_eq_bigSepL_of_eq [main_v0] (by decide) (by decide)]
  simp only [BI.bigSepL_singleton, Function.update_self]

/-- `W` whole, and `w_buf` whole, as the kernel names them. -/
theorem wHome_eq (c : Dev nD) (f : WBuf F c) : (wHomeP c f : sProp 𝕄) = (((c : Thread nD τ).loc main_arg1) ↦{fullShare} f) :=
  congrArg (fun S => (_ ↦[S]{fullShare} f : sProp 𝕄)) (View.set_whole _)
/-- The same of `w_buf`. -/
theorem wBuf_eq (c : Dev nD) (f) : (wBufP c f : sProp 𝕄) = (((c : Thread nD τ).loc cc0_scratch1) ↦{fullShare} f) :=
  congrArg (fun S => (_ ↦[S]{fullShare} f : sProp 𝕄)) (View.set_whole _)

/-! ## The proof data: before the one point and after it -/

/-- Before the kernel: everything at rest, the result at anything. -/
def before (c : Dev nD) : sProp 𝕄 := iprop(atRest c (xAt m c) (wAt m c) ∗ ((∃ y, yHalfP c 0 y) ∗ ∃ y, yHalfP c 1 y) ∗ ∃ r, prngReg c r)
/-- After it: everything at rest, the result's halves at the product. -/
def after (c : Dev nD) : sProp 𝕄 :=
  iprop(atRest c (xAt m c) (wAt m c) ∗ (yHalfP c 0 (yAt m c) ∗ yHalfP c 1 (yAt m c)) ∗ ∃ r, prngReg c r)

/-- The proof data of the one call: no windows, one point, nothing owed. -/
def dats (_ : Fin 1) (c : Dev nD) : Dat τ (Elt F) Unit ℕ (UU nD τ) ℕ cfg0 c where
  A w := launched m c (Pipeline.arrRef cfg0.spec w)
  after w _ := Fin.elim0 w
  Φ t := if t.val = 0 then before m c else after m c
  q _ := fullShare
  owed _ := 0

/-- The point starts from `before`. -/
theorem Φ_start (c : Dev nD) (t : Fin cfg0.N) : (dats m 0 c).Φ t.castSucc = before m c := by
  rw [fin_N0 t]; rfl
/-- It ends in `after`. -/
theorem Φ_end (c : Dev nD) (t : Fin cfg0.N) : (dats m 0 c).Φ t.succ = after m c := by
  rw [fin_N0 t]; rfl
/-- The last invariant is `after`. -/
theorem Φ_last (c : Dev nD) : (dats m 0 c).Φ (Fin.last cfg0.N) = after m c := by
  show (if grid0.N = 0 then before m c else after m c) = _
  rw [N_0]; rfl

/-- The call has no windows. -/
theorem bigSep_none (Φ : Fin cfg0.W → sProp 𝕄) : bigSep Finset.univ Φ = BI.emp := by
  rw [show (Finset.univ : Finset (Fin cfg0.W)) = ∅ from rfl, BI.bigSep_empty]

/-- The launch hands over what the kernel starts from, -/
theorem enter (c : Dev nD) : Pipeline.ΦDRG osem cfg0.spec readRefs writtenRefs (launched m) (launched m) c ⊢ (before m c : sProp 𝕄) := by
  rw [Pipeline.ΦDRG_eq, scopedRest0_eq, ownSems0_eq, reads_eq, written_start, x_eq c (xAt m c), y_eq c (launched m c main_v0), ← wHome_eq]
  unfold before atRest ringIdle
  iintro ⟨⟨Hb0, ⟨%fw, Hb1⟩, Hb2⟩, Hr, ⟨Hx0, Hx1, Hw, Hy0, Hy1⟩, ⟨HX, HW⟩, ⟨HYa, HYb⟩⟩
  ihave Hs := (slots_split c) $$ Hb0
  icases Hs with ⟨Hs0, Hs1⟩
  ihave Ho := (oHalves_split c) $$ Hb2
  icases Ho with ⟨Ho0, Ho1⟩
  isplitl [Hs0 Hs1 Ho0 Ho1 Hb1 Hx0 Hx1 Hw Hy0 Hy1 HX HW]
  · isplitl [Hs0 Hs1 Hb1 Hx0 Hx1 Hw HX HW]
    · isplitl [HX Hs0 Hs1 Hx0 Hx1]
      · isplitl [HX]; · iexact HX
        isplitl [Hs0]; · iexact Hs0
        isplitl [Hs1]; · iexact Hs1
        isplitl [Hx0]; · iexact Hx0
        iexact Hx1
      isplitl [HW Hw]
      · isplitl [HW]; · iexact HW
        iexact Hw
      iexists fw; iapply (entails_of_eq (wBuf_eq c fw).symm); iexact Hb1
    isplitl [Ho0 Ho1]
    · isplitl [Ho0]; · iexact Ho0
      iexact Ho1
    isplitl [Hy0]; · iexact Hy0
    iexact Hy1
  isplitl [HYa HYb]
  · isplitl [HYa]; · iexists _; iexact HYa
    iexists _; iexact HYb
  iexact Hr

/-- and takes back what it leaves. -/
theorem leave (c : Dev nD) : (after m c : sProp 𝕄) ⊢ Pipeline.ΦDRG osem cfg0.spec readRefs writtenRefs (launched m) (final m) c := by
  rw [Pipeline.ΦDRG_eq, scopedRest0_eq, ownSems0_eq, reads_eq, written_end, x_eq c (xAt m c), y_eq c (yAt m c), ← wHome_eq]
  unfold after atRest ringIdle
  iintro ⟨⟨⟨⟨HX, Hs0, Hs1, Hx0, Hx1⟩, ⟨HW, Hw⟩, ⟨%fw, Hb1⟩⟩, ⟨Ho0, Ho1⟩, ⟨Hy0, Hy1⟩⟩, ⟨HYa, HYb⟩, Hr⟩
  isplitl [Hs0 Hs1 Hb1 Ho0 Ho1]
  · isplitl [Hs0 Hs1]
    · iapply (slots_join c)
      isplitl [Hs0]; · iexact Hs0
      iexact Hs1
    isplitl [Hb1]
    · iexists fw; iapply (entails_of_eq (wBuf_eq c fw)); iexact Hb1
    iapply (oHalves_join c)
    isplitl [Ho0]; · iexact Ho0
    iexact Ho1
  isplitl [Hr]; · iexact Hr
  isplitl [Hx0 Hx1 Hw Hy0 Hy1]
  · isplitl [Hx0]; · iexact Hx0
    isplitl [Hx1]; · iexact Hx1
    isplitl [Hw]; · iexact Hw
    isplitl [Hy0]; · iexact Hy0
    iexact Hy1
  isplitl [HX HW]
  · isplitl [HX]; · iexact HX
    iexact HW
  isplitl [HYa]; · iexact HYa
  iexact HYb

/-! ## The body at its point -/

/-- The call's body is the kernel on its own buffers. -/
theorem defs_tc : (defs₀ (F := F)) .tc cfg0.body = fun _ => bodyG := rfl
/-- So it is at every point. -/
theorem prog_eq (t : Fin cfg0.N) : (defs₀ (F := F)) .tc cfg0.body (cfg0.bodyArgs t (cfg0.slots t)) = bodyG := (congrFun defs_tc _).trans rfl

set_option backward.isDefEq.respectTransparency.types false in
/-- At its one point the kernel takes `before` to `after`. -/
theorem body_obligation (c : Dev nD) : BodyObligation (dats (F := F) m 0 c) (defs₀ (F := F)) 𝒱₀ () Set.univ := fun t => by
  rw [bigSep_none, bigSep_none, Φ_start, Φ_end]
  unfold Dat.owesAt Pipeline.owesWithin
  rw [show (dats m 0 c).owed t.castSucc = 0 from rfl, show (dats m 0 c).owed t.succ = 0 from rfl]
  unfold before after
  iintro ⟨⟨HA, HY, Hr⟩, ⟨%W, -, HW⟩, -⟩
  sl_rw [prog_eq t]
  iapply (wp_wand_r Idealize.ShloMosaic.frame (wpE (defs₀ (F := F)) 𝒱₀ (c : Thread nD τ) none) Set.univ)
  isplitl [HA HY HW]
  · iapply (bodyRun c (xAt m c) (wAt m c))
    isplitl [HA]; · iexact HA
    isplitl [HY]; · iexact HY
    iexists W; iexact HW
  · iintro %_ ⟨HA, ⟨HYa, HYb⟩, ⟨%W', HW⟩⟩
    ihave Ha := (yDone_out c (xAt m c) (wAt m c) 0) $$ HYa
    ihave Hb := (yDone_out c (xAt m c) (wAt m c) 1) $$ HYb
    isplitl [HA Ha Hb Hr]
    · isplitl [HA]; · iexact HA
      isplitl [Ha Hb]
      · isplitl [Ha]; · iexact Ha
        iexact Hb
      iexact Hr
    isplitl [HW]
    · iexists W'; isplitr; · ipureintro; exact fun _ _ => Or.inl trivial
      iexact HW
    iempintro

/-! ## The run -/

/-- What a run ends with: both arguments as launched, the result the product, every semaphore at zero. -/
def RunPost (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v0) = yAt m c) ∧ r.2.sem = fun _ => 0

set_option backward.isDefEq.respectTransparency.types false in
/-- THE RUN, at any float values and from any memory with zero counters: every weakly fair execution of the program on
    every core terminates, in a state as `RunPost` says. -/
theorem run_main : θ_run defs (onTc (τ := τ) (main (F := F))) (s₀ m ρ) (RunPost m) :=
  Pipeline.θ_run_frame_dmaRG cfgs (dats m) 0 launch0 osem defs₀ 𝒱₀ ownSemFacts readRefs writtenRefs (by decide) (by decide) m ρ main
    (fun c => (body_obligation m c).loose) (fun c => (dats m 0 c).share_full fun _ => rfl) (fun _ _ => rfl)
    (launched m) (Pipeline.hmain_region cfgs 0 defs₀ 𝒱₀ m main fun c => (main_chain c).trans rfl) (fun _ w => Fin.elim0 w) (final m)
    (fun c => enter m c) (fun c => (entails_of_eq (Φ_last m c)).trans (leave m c)) (RunPost m)
    (fun r h => ⟨fun c => ⟨(h.1.toR c).2 main_arg0 (by decide), (h.1.toR c).2 main_arg1 (by decide),
      (h.1.written c (by decide)).trans (by unfold final; rw [Function.update_self])⟩, h.2⟩)

end Cert.Proof.Hand

end
-- ==== Proof.Hand.Product.lean ====
/-
  At exact arithmetic the kernel's output is the reference's product. Row `r` of the output is row `r % 1024` of the
  product of block `r / 1024`, both contracted whole over the 4096 features, so each element is one sum, the same on both
  sides: Σ_k x[r, k] · W[e, k].
-/
module

public import proofs.«01_k».proof.Proof.Hand.Values
public import proofs.«01_k».proof.Proof.Gen.ReferenceIdeal
public import Idealize.ShloMosaic.Lib.MatmulPlain
public import Idealize.ShloMosaic.Lib.StackMember
public import Idealize.ShloMosaic.Lib.ValueLayout

@[expose] public section

noncomputable section

namespace Cert.Proof.Hand

open Cert.KernelIdeal Cert.KernelIdeal.Gen
open Idealize.ShloMosaic
open Idealize.ShloMosaic.TcCoe
open Idealize.ShloMosaic.ValueIdx

/-- Block `b` of `x`, read at a row and a feature, is `x` at that row of the block. -/
theorem xBlk_read (XA : FVec Ideal S32768x4096 .f32) (b : Fin 32) (r : Fin 1024) (k : Fin 4096) :
    (xBlk b).view.read (Elt Ideal) XA (ix2 r k) = XA (ix2 (⟨b.val * 1024 + r.val, by omega⟩ : Fin 32768) k) := by
  show XA ((xBlk b).view.emb (ix2 r k)) = _
  refine congrArg XA (funext fun a => Fin.ext ?_)
  match a with
  | ⟨0, _⟩ => show b.val * 1024 + 1 * r.val = b.val * 1024 + r.val; omega
  | ⟨1, _⟩ => show 0 + 1 * k.val = k.val; omega

/-- A block's product at a row and a column is the sum over the features. -/
theorem blkProd_apply (c : Dev nD) (XA : FVec Ideal S32768x4096 .f32) (WA : FVec Ideal S64x4096 .f32) (b : Fin 32) (r : Fin 1024) (e : Fin 64) :
    (blkProd (c := c) XA WA b : FVec Ideal S1024x64 .f32) (ix2 r e) = ∑ k : Fin 4096, XA (ix2 (⟨b.val * 1024 + r.val, by omega⟩ : Fin 32768) k) * WA (ix2 e k) := by
  unfold blkProd
  refine (Ideal.matmul_transposedRhs_apply (M := 1024) (K := 4096) (N := 64) none _ _ _ r e).trans ?_
  have h0 : (constant S1024x64 .f32 0x00000000#32 : FVec Ideal S1024x64 .f32) (ix2 r e) = (0 : EReal) := by
    simp [constant]
  refine (congrArg₂ (· + ·) h0 rfl).trans ((zero_add _).trans (Finset.sum_congr rfl fun k _ => ?_))
  exact congrArg (· * _) (xBlk_read XA b r k)

/-- The output at exact arithmetic is the reference's `x` times `W` transposed. -/
theorem outVal_eq (c : Dev nD) (XA : FVec Ideal S32768x4096 .f32) (WA : FVec Ideal S64x4096 .f32) :
    Host.dotGeneral Cert.ReferenceIdeal.dot_S32768x4096_S4096x64_S32768x64_1_0_0_1_n_n none XA
      (transpose Cert.ReferenceIdeal.S4096x64 [1, 0] WA Cert.ReferenceIdeal.Gen.transposes_S64x4096_S4096x64_1_0) = outVal (F := Ideal) (c := c) XA WA := by
  funext y
  obtain ⟨r, e, rfl⟩ : ∃ (r : Fin 32768) (e : Fin 64), y = ix2 r e := ⟨y 0, y 1, eq_ix2 y⟩
  refine (StackMember.dotGeneral_plain_apply (m := 32768) (k := 4096) (n := 64) none XA _ r e).trans ?_
  refine Eq.trans ?_ (blkProd_apply c XA WA ⟨r.val / 1024, by omega⟩ ⟨r.val % 1024, by omega⟩ e).symm
  refine Finset.sum_congr rfl fun k _ => ?_
  have hr : (⟨r.val / 1024 * 1024 + r.val % 1024, by omega⟩ : Fin 32768) = r := Fin.ext (by show r.val / 1024 * 1024 + r.val % 1024 = r.val; omega)
  exact congrArg₂ (fun a b : EReal => a * b) (congrArg (fun i => XA (ix2 i k)) hr.symm) (transpose_ix2_apply (a := 64) (b := 4096) WA _ k e)

end Cert.Proof.Hand

end
-- ==== Proof.lean ====
/-
  The proof of `Cert.Claim` (proof/Defs.lean).

  The kernel's run is proved once, at any float values (Proof/Hand/Launch.lean `run_main`): it terminates, the arguments
  end as launched, the result is the product block by block (`outVal`), every semaphore reads zero. At the machine's
  floats that is the kernel's frame, at exact arithmetic the idealization's. The reference is two host operations, whose
  run is generated. The two values are equal at exact arithmetic (Proof/Hand/Product.lean `outVal_eq`).
-/
module

public import proofs.«01_k».proof.Defs
public import proofs.«01_k».proof.Proof.Gen.Kernel
public import proofs.«01_k».proof.Proof.Gen.ReferenceIdeal.Run
public import proofs.«01_k».proof.Proof.Hand.Launch
public import proofs.«01_k».proof.Proof.Hand.Product

@[expose] public section

noncomputable section

namespace Cert.Proof

open Idealize.ShloMosaic Idealize.SL.Sem

/-- The run as a frame: the arguments as launched and every semaphore at zero. -/
theorem run_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => ⟨(h.1 c).1, (h.1 c).2.1⟩, h.2⟩) (Hand.run_main (F := F) m g)

set_option maxRecDepth 65536 in
/-- The kernel's frame: its program is the idealization's own text, so the run above, at the machine's floats, is its run. -/
theorem frame_kernel : Cert.quiescent_Kernel (hKernel := Cert.Kernel.Gen.facts) := by
  intro m g _; exact run_frame (F := Bits) m g

/-- The idealization's frame. -/
theorem frame_ideal : Cert.quiescent_KernelIdeal (hKernelIdeal := Cert.KernelIdeal.Gen.facts) := fun m g _ => run_frame (F := Ideal) m g

/-- The reference's frame: its operations write neither argument, and it declares no semaphore. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => ⟨(h c).2.1, (h c).2.2⟩, sem_eq_zero_of_no_sems (by decide) r.2⟩)
    (Cert.ReferenceIdeal.Value.run (F := Ideal) m g)

/-- From equal arguments the kernel and the reference end with equal results at exact arithmetic. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Hand.yAt m c, (θ_run (Cert.KernelIdeal.defs (F := Ideal)) _ _).mono (fun _ h c => ⟨(h.1 c).2.2, (h.1 c).1, (h.1 c).2.1⟩) (Hand.run_main (F := Ideal) m g), ?_⟩
  refine (θ_run (Cert.ReferenceIdeal.defs (F := Ideal)) _ _).mono (fun r h c => ?_) (Cert.ReferenceIdeal.Value.run (F := Ideal) m' g')
  obtain ⟨hv, h0, h1⟩ := h c
  refine ⟨hv.trans ?_, h0, h1⟩
  rw [(hargs c).1, (hargs c).2]
  exact Hand.outVal_eq c _ _

theorem claim : Cert.Claim :=
  ⟨Cert.Kernel.Gen.facts, Cert.KernelIdeal.Gen.facts, Cert.ReferenceIdeal.Gen.facts, frame_kernel, frame_ideal, frame_reference, trivial, algebraic⟩

end Cert.Proof

end
